-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_v28) = v5 c
          ∧ r.2.mem ((c.tc : Thread Cert.ReferenceIdeal.nD Cert.ReferenceIdeal.τ).loc Cert.ReferenceIdeal.main_v30) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x2304 : Shape := ⟨3, ![12, 128, 2304]⟩
abbrev S9216x2304 : Shape := ⟨2, ![9216, 2304]⟩
abbrev S9216 : Shape := ⟨1, ![9216]⟩
abbrev S16x2304 : Shape := ⟨2, ![16, 2304]⟩
abbrev S9216x16 : Shape := ⟨2, ![9216, 16]⟩
abbrev S12x128x9216 : Shape := ⟨3, ![12, 128, 9216]⟩
abbrev S12x128 : Shape := ⟨2, ![12, 128]⟩
abbrev S1536x2304 : Shape := ⟨2, ![1536, 2304]⟩
abbrev S1x9216 : Shape := ⟨2, ![1, 9216]⟩
abbrev S1536x9216 : Shape := ⟨2, ![1536, 9216]⟩
abbrev S1536x16 : Shape := ⟨2, ![1536, 16]⟩
abbrev S512x2304 : Shape := ⟨2, ![512, 2304]⟩
abbrev S1x512 : Shape := ⟨2, ![1, 512]⟩
abbrev S512x16 : Shape := ⟨2, ![512, 16]⟩
abbrev S1536x512 : Shape := ⟨2, ![1536, 512]⟩
abbrev S16x1536 : Shape := ⟨2, ![16, 1536]⟩
abbrev S1536x128 : Shape := ⟨2, ![1536, 128]⟩
abbrev S1x128 : Shape := ⟨2, ![1, 128]⟩
abbrev S128x128 : Shape := ⟨2, ![128, 128]⟩
abbrev S512x128 : Shape := ⟨2, ![512, 128]⟩
abbrev S128 : Shape := ⟨1, ![128]⟩
abbrev S16x512 : Shape := ⟨2, ![16, 512]⟩

abbrev nBuf : Space → Nat
  | .hbm => 19
  | .vmem => 29
  | .smem => 0
  | _ => 0

abbrev bufTy : (tb : Table) → Fin (tcTables nBuf tb) → BufTy
  | .hbm, ⟨0, _⟩ => ⟨S12x128x2304, .bf16⟩
  | .hbm, ⟨1, _⟩ => ⟨S9216x2304, .fp8e4m3⟩
  | .hbm, ⟨2, _⟩ => ⟨S9216, .f32⟩
  | .hbm, ⟨3, _⟩ => ⟨S16x2304, .bf16⟩
  | .hbm, ⟨4, _⟩ => ⟨S9216x16, .bf16⟩
  | .hbm, ⟨5, _⟩ => ⟨S9216, .f32⟩
  | .hbm, ⟨6, _⟩ => ⟨S12x128x9216, .fp8e5m2⟩
  | .hbm, ⟨7, _⟩ => ⟨S12x128, .f32⟩
  | .hbm, ⟨8, _⟩ => ⟨S1536x2304, .bf16⟩
  | .hbm, ⟨9, _⟩ => ⟨S1x9216, .f32⟩
  | .hbm, ⟨10, _⟩ => ⟨S1x9216, .f32⟩
  | .hbm, ⟨11, _⟩ => ⟨S1536x9216, .fp8e5m2⟩
  | .hbm, ⟨12, _⟩ => ⟨S1536x2304, .bf16⟩
  | .hbm, ⟨13, _⟩ => ⟨S16x2304, .bf16⟩
  | .hbm, ⟨14, _⟩ => ⟨S9216x16, .bf16⟩
  | .hbm, ⟨15, _⟩ => ⟨S1x9216, .f32⟩
  | .hbm, ⟨16, _⟩ => ⟨S1536x9216, .bf16⟩
  | .hbm, ⟨17, _⟩ => ⟨S1536x16, .bf16⟩
  | .hbm, ⟨18, _⟩ => ⟨S1536x16, .bf16⟩
  | .local _ .vmem, ⟨0, _⟩ => ⟨S1536x2304, .bf16⟩
  | .local _ .vmem, ⟨1, _⟩ => ⟨S512x2304, .fp8e4m3⟩
  | .local _ .vmem, ⟨2, _⟩ => ⟨S512x2304, .fp8e4m3⟩
  | .local _ .vmem, ⟨3, _⟩ => ⟨S1x512, .f32⟩
  | .local _ .vmem, ⟨4, _⟩ => ⟨S1x512, .f32⟩
  | .local _ .vmem, ⟨5, _⟩ => ⟨S16x2304, .bf16⟩
  | .local _ .vmem, ⟨6, _⟩ => ⟨S512x16, .bf16⟩
  | .local _ .vmem, ⟨7, _⟩ => ⟨S512x16, .bf16⟩
  | .local _ .vmem, ⟨8, _⟩ => ⟨S1x512, .f32⟩
  | .local _ .vmem, ⟨9, _⟩ => ⟨S1x512, .f32⟩
  | .local _ .vmem, ⟨10, _⟩ => ⟨S1536x512, .fp8e5m2⟩
  | .local _ .vmem, ⟨11, _⟩ => ⟨S1536x512, .fp8e5m2⟩
  | .local _ .vmem, ⟨12, _⟩ => ⟨S12x128, .f32⟩
  | .local _ .vmem, ⟨13, _⟩ => ⟨S1536x2304, .bf16⟩
  | .local _ .vmem, ⟨14, _⟩ => ⟨S16x2304, .bf16⟩
  | .local _ .vmem, ⟨15, _⟩ => ⟨S512x16, .bf16⟩
  | .local _ .vmem, ⟨16, _⟩ => ⟨S512x16, .bf16⟩
  | .local _ .vmem, ⟨17, _⟩ => ⟨S1x512, .f32⟩
  | .local _ .vmem, ⟨18, _⟩ => ⟨S1x512, .f32⟩
  | .local _ .vmem, ⟨19, _⟩ => ⟨S1536x512, .bf16⟩
  | .local _ .vmem, ⟨20, _⟩ => ⟨S1536x512, .bf16⟩
  | .local _ .vmem, ⟨21, _⟩ => ⟨S1536x16, .bf16⟩
  | .local _ .vmem, ⟨22, _⟩ => ⟨S1536x16, .bf16⟩
  | .local _ .vmem, ⟨23, _⟩ => ⟨S1536x2304, .f32⟩
  | .local _ .vmem, ⟨24, _⟩ => ⟨S16x1536, .f32⟩
  | .local _ .vmem, ⟨25, _⟩ => ⟨S16x1536, .bf16⟩
  | .local _ .vmem, ⟨26, _⟩ => ⟨S1536x128, .f32⟩
  | .local _ .vmem, ⟨27, _⟩ => ⟨S512x2304, .bf16⟩
  | .local _ .vmem, ⟨28, _⟩ => ⟨S1536x512, .bf16⟩
  | _, _ => ⟨S12x128x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![18], ![false]⟩

def k0_cond2 (i : grid0.Coords) : BitVec 1 :=
  let arg0 : BitVec 32 := BitVec.ofNat 32 (i 0).val
  let c17_i32 : BitVec 32 := 17#32
  let v338 : BitVec 1 := Scalar.cmpi .eq arg0 c17_i32
  let v339 : BitVec 32 := Scalar.extui v338
  let c0_i32_124 : BitVec 32 := 0#32
  let v340 : BitVec 1 := Scalar.cmpi .ne v339 c0_i32_124
  v340

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2304 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x2304 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x2304 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x16 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1536x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1536x16 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1536x16 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S12x128x2304 : Shape := ⟨3, ![12, 128, 2304]⟩
abbrev S9216x2304 : Shape := ⟨2, ![9216, 2304]⟩
abbrev S9216 : Shape := ⟨1, ![9216]⟩
abbrev S16x2304 : Shape := ⟨2, ![16, 2304]⟩
abbrev S9216x16 : Shape := ⟨2, ![9216, 16]⟩
abbrev S12x128x9216 : Shape := ⟨3, ![12, 128, 9216]⟩
abbrev S12x128 : Shape := ⟨2, ![12, 128]⟩
abbrev S1536x2304 : Shape := ⟨2, ![1536, 2304]⟩
abbrev S1536x9216 : Shape := ⟨2, ![1536, 9216]⟩
abbrev S1536 : Shape := ⟨1, ![1536]⟩
abbrev S9216x1 : Shape := ⟨2, ![9216, 1]⟩
abbrev S_ : Shape := ⟨0, ![]⟩
abbrev S1536x1 : Shape := ⟨2, ![1536, 1]⟩
abbrev S1x9216 : Shape := ⟨2, ![1, 9216]⟩
abbrev S1536x16 : Shape := ⟨2, ![1536, 16]⟩

abbrev nBuf : Space → Nat
  | .hbm => 48
  | .vmem => 4
  | .smem => 0
  | _ => 0

abbrev bufTy : (tb : Table) → Fin (tcTables nBuf tb) → BufTy
  | .hbm, ⟨0, _⟩ => ⟨S12x128x2304, .bf16⟩
  | .hbm, ⟨1, _⟩ => ⟨S9216x2304, .fp8e4m3⟩
  | .hbm, ⟨2, _⟩ => ⟨S9216, .f32⟩
  | .hbm, ⟨3, _⟩ => ⟨S16x2304, .bf16⟩
  | .hbm, ⟨4, _⟩ => ⟨S9216x16, .bf16⟩
  | .hbm, ⟨5, _⟩ => ⟨S9216, .f32⟩
  | .hbm, ⟨6, _⟩ => ⟨S12x128x9216, .fp8e5m2⟩
  | .hbm, ⟨7, _⟩ => ⟨S12x128, .f32⟩
  | .hbm, ⟨8, _⟩ => ⟨S1536x2304, .bf16⟩
  | .hbm, ⟨9, _⟩ => ⟨S1536x9216, .fp8e5m2⟩
  | .hbm, ⟨10, _⟩ => ⟨S1536, .f32⟩
  | .hbm, ⟨11, _⟩ => ⟨S9216x2304, .f32⟩
  | .hbm, ⟨12, _⟩ => ⟨S1536x9216, .f32⟩
  | .hbm, ⟨13, _⟩ => ⟨S9216x1, .f32⟩
  | .hbm, ⟨14, _⟩ => ⟨S9216x2304, .f32⟩
  | .hbm, ⟨15, _⟩ => ⟨S9216x2304, .f32⟩
  | .hbm, ⟨16, _⟩ => ⟨S9216x2304, .f32⟩
  | .hbm, ⟨17, _⟩ => ⟨S9216x2304, .f32⟩
  | .hbm, ⟨18, _⟩ => ⟨S9216x2304, .f32⟩
  | .hbm, ⟨19, _⟩ => ⟨S_, .f32⟩
  | .hbm, ⟨20, _⟩ => ⟨S9216, .f32⟩
  | .hbm, ⟨21, _⟩ => ⟨S9216, .f32⟩
  | .hbm, ⟨22, _⟩ => ⟨S9216, .f32⟩
  | .hbm, ⟨23, _⟩ => ⟨S9216x2304, .bf16⟩
  | .hbm, ⟨24, _⟩ => ⟨S1536x9216, .f32⟩
  | .hbm, ⟨25, _⟩ => ⟨S1536x1, .f32⟩
  | .hbm, ⟨26, _⟩ => ⟨S1536x9216, .f32⟩
  | .hbm, ⟨27, _⟩ => ⟨S1536x9216, .f32⟩
  | .hbm, ⟨28, _⟩ => ⟨S1536x9216, .f32⟩
  | .hbm, ⟨29, _⟩ => ⟨S_, .f32⟩
  | .hbm, ⟨30, _⟩ => ⟨S9216, .f32⟩
  | .hbm, ⟨31, _⟩ => ⟨S9216, .f32⟩
  | .hbm, ⟨32, _⟩ => ⟨S1x9216, .f32⟩
  | .hbm, ⟨33, _⟩ => ⟨S1536x9216, .f32⟩
  | .hbm, ⟨34, _⟩ => ⟨S1536x9216, .f32⟩
  | .hbm, ⟨35, _⟩ => ⟨S1536x9216, .bf16⟩
  | .hbm, ⟨36, _⟩ => ⟨S1536x2304, .f32⟩
  | .hbm, ⟨37, _⟩ => ⟨S1536x2304, .bf16⟩
  | .hbm, ⟨38, _⟩ => ⟨S1536x16, .f32⟩
  | .hbm, ⟨39, _⟩ => ⟨S1536x16, .bf16⟩
  | .hbm, ⟨40, _⟩ => ⟨S1536x16, .f32⟩
  | .hbm, ⟨41, _⟩ => ⟨S1536x16, .bf16⟩
  | .hbm, ⟨42, _⟩ => ⟨S16x2304, .f32⟩
  | .hbm, ⟨43, _⟩ => ⟨S16x2304, .bf16⟩
  | .hbm, ⟨44, _⟩ => ⟨S9216x16, .f32⟩
  | .hbm, ⟨45, _⟩ => ⟨S9216x16, .bf16⟩
  | .hbm, ⟨46, _⟩ => ⟨S1x9216, .f32⟩
  | .hbm, ⟨47, _⟩ => ⟨S1536x9216, .bf16⟩
  | .local _ .vmem, ⟨0, _⟩ => ⟨S9216x2304, .fp8e4m3⟩
  | .local _ .vmem, ⟨1, _⟩ => ⟨S1536x9216, .fp8e5m2⟩
  | .local _ .vmem, ⟨2, _⟩ => ⟨S9216x2304, .f32⟩
  | .local _ .vmem, ⟨3, _⟩ => ⟨S1536x9216, .f32⟩
  | _, _ => ⟨S12x128x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S9216x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x9216 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Bits.Runs.lean ====
/- What the runs of the kernel's body share: the branch conditions over the points, the staging and scratch memrefs, and the reading of the frame off a run. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- the long axes of the arrays need a deeper recursion
set_option maxRecDepth 16384

noncomputable section

namespace Cert.Kernel.Bits

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c))⟩) h

/-! ## The body's branch conditions -/

/-- The condition of the body's conditional 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-- The condition of the body's conditional 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 18 = 17 :=
  (fun t => by
    have ht : t.val < 18 := Nat.lt_of_lt_of_eq t.isLt N_0
    have e0 : (grid0.coords t 0).val = t.val / 1 % 18 := Pipeline.Grid.coords_val t 0 (by decide) rfl
    simp only [cond0_1, k0_cond2, e0]
    word_cmp
   : ∀ t : Fin grid0.N, cond0_1 (grid0.coords t) ↔ t.val % 18 = 17)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2304 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x2304 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x16 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x512 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x2304 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x2304 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x16 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1536x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x16 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1536x16 .bf16 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S1536x2304 .f32 := Memref.whole cc0_scratch0
abbrev scM0_1 : Memref sig .tc .vmem S16x1536 .f32 := Memref.whole cc0_scratch1
abbrev scM0_2 : Memref sig .tc .vmem S16x1536 .bf16 := Memref.whole cc0_scratch2
abbrev scM0_3 : Memref sig .tc .vmem S1536x128 .f32 := Memref.whole cc0_scratch3
abbrev scM0_4 : Memref sig .tc .vmem S512x2304 .bf16 := Memref.whole cc0_scratch4
abbrev scM0_5 : Memref sig .tc .vmem S1536x512 .bf16 := Memref.whole cc0_scratch5
/-- The scratch `arg16` the kernel carries between points, as a view: what it holds is stated through it. -/
abbrev VS0_0 : View sig .tc .vmem S1536x2304 .f32 := scM0_0.view
/-- The scratch `arg17` the kernel carries between points, as a view: what it holds is stated through it. -/
abbrev VS0_1 : View sig .tc .vmem S16x1536 .f32 := scM0_1.view
/-- The scratch `arg19` the kernel carries between points, as a view: what it holds is stated through it. -/
abbrev VS0_3 : View sig .tc .vmem S1536x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Bits

end
-- ==== Proof.Bits.RunA.lean ====
/- The kernel's body at the first point, run to its end. -/
module

public import proofs.«01_k».proof.Proof.Bits.Runs

@[expose] public section

-- the long axes of the arrays need a deeper recursion
set_option maxRecDepth 16384

noncomputable section

namespace Cert.Kernel.Bits

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- What the body's stores leave in each output's staging memref, as pieces (last first) IN CASE A (conditional 0 taken, conditional 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each conditional decided by the case's hypotheses `hc·`; the pieces are
    the witness that run finds (assigned when `iexact` hands the buffer to the continuation). Here also the FORGOTTEN outputs' (8, 9, 10, 11, 12, 13, 14) at anything, handed back at some contents nothing names. -/
noncomputable def kernelRun0_A (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) :
    Σ' (LS0 : List (View.Piece (Elt F) S1536x2304 .f32)), Σ' (LS1 : List (View.Piece (Elt F) S16x1536 .f32)), Σ' (LS3 : List (View.Piece (Elt F) S1536x128 .f32)), Σ' (LT4 : List (View.Piece (Elt F) S512x2304 .bf16)), { LT5 : List (View.Piece (Elt F) S1536x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ d, owns (c : Thread nD τ) arg18 fullShare d) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LT4) ∗ (∃ f, arg21.view.loc (c : Thread nD τ) ↦[arg21.view.set]{fullShare} arg21.view.writes (Elt F) f LT5)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, fun E K => ?run⟩
  case run =>
    simp only [cc0_dora_bwd_eq_skeleton]; unfold cc0_dora_bwd_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]; · iexists _; iexact HS0
    isplitl [HS1]; · iexists _; iexact HS1
    isplitl [HS2]
    · iexists _, _; isplitr; swap; · iexact HS2
      ipureintro; rfl
    isplitl [HS3]; · iexists _; iexact HS3
    isplitl [HS4]; · iexists _; iexact HS4
    iexists _; iexact HS5

end Cert.Kernel.Bits

end
-- ==== Proof.Bits.RunB.lean ====
/- The kernel's body between the first point and the last, run to its end. -/
module

public import proofs.«01_k».proof.Proof.Bits.RunA

@[expose] public section

-- the long axes of the arrays need a deeper recursion
set_option maxRecDepth 16384

noncomputable section

namespace Cert.Kernel.Bits

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1200000 in
/-- What the body's stores leave in each output's staging memref, as pieces (last first) IN CASE B (conditional 0 not taken, conditional 1 not taken: points 1, 2, … 16: 16 of 18), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each conditional decided by the case's hypotheses `hc·`; the pieces are
    the witness that run finds (assigned when `iexact` hands the buffer to the continuation). Here also the FORGOTTEN outputs' (8, 9, 10, 11, 12, 13, 14) at anything, handed back at some contents nothing names. -/
noncomputable def kernelRun0_B (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) :
    Σ' (LS0 : List (View.Piece (Elt F) S1536x2304 .f32)), Σ' (LS1 : List (View.Piece (Elt F) S16x1536 .f32)), Σ' (LS3 : List (View.Piece (Elt F) S1536x128 .f32)), Σ' (LT4 : List (View.Piece (Elt F) S512x2304 .bf16)), { LT5 : List (View.Piece (Elt F) S1536x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ (∃ d, owns (c : Thread nD τ) arg18 fullShare d) ∗ owns (c : Thread nD τ) arg19 fullShare xs3 ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ d, owns (c : Thread nD τ) arg18 fullShare d) ∗ owns (c : Thread nD τ) arg19 fullShare xs3 ∗ (∃ f, arg20.view.loc (c : Thread nD τ) ↦[arg20.view.set]{fullShare} arg20.view.writes (Elt F) f LT4) ∗ (∃ f, arg21.view.loc (c : Thread nD τ) ↦[arg21.view.set]{fullShare} arg21.view.writes (Elt F) f LT5)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, [], ?_, ?_, fun E K => ?run⟩
  case run =>
    simp only [cc0_dora_bwd_eq_skeleton]; unfold cc0_dora_bwd_skel
    simp only [k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, ⟨%ds2, %fs2, -, HS2⟩, ⟨%fs3, %hfs3, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg16.eq_unread hfs0; obtain rfl := harg17.eq_unread hfs1; obtain rfl := harg19.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]; · iexists _; iexact HS0
    isplitl [HS1]; · iexists _; iexact HS1
    isplitl [HS2]
    · iexists _, _; isplitr; swap; · iexact HS2
      ipureintro; rfl
    isplitl [HS3]
    · iexists _; isplitr; · ipureintro; exact harg19.read_unread _
      iexact HS3
    isplitl [HS4]; · iexists _; iexact HS4
    iexists _; iexact HS5

end Cert.Kernel.Bits

end
-- ==== Proof.Bits.RunC.lean ====
/- The kernel's body at the last point, run to its end. -/
module

public import proofs.«01_k».proof.Proof.Bits.RunB

@[expose] public section

-- the long axes of the arrays need a deeper recursion
set_option maxRecDepth 16384

noncomputable section

namespace Cert.Kernel.Bits

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1200000 in
/-- What the body's stores leave in each output's staging memref, as pieces (last first) IN CASE C (conditional 0 not taken, conditional 1 taken: points 17), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each conditional decided by the case's hypotheses `hc·`; the pieces are
    the witness that run finds (assigned when `iexact` hands the buffer to the continuation). Here also the FORGOTTEN outputs' (8, 9, 10, 11, 12, 13, 14) at anything, handed back at some contents nothing names. -/
noncomputable def kernelRun0_C (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) :
    Σ' (LS0 : List (View.Piece (Elt F) S1536x2304 .f32)), Σ' (LS1 : List (View.Piece (Elt F) S16x1536 .f32)), Σ' (LS3 : List (View.Piece (Elt F) S1536x128 .f32)), Σ' (LT4 : List (View.Piece (Elt F) S512x2304 .bf16)), { LT5 : List (View.Piece (Elt F) S1536x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ (∃ d, owns (c : Thread nD τ) arg18 fullShare d) ∗ owns (c : Thread nD τ) arg19 fullShare xs3 ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ d, owns (c : Thread nD τ) arg18 fullShare d) ∗ owns (c : Thread nD τ) arg19 fullShare xs3 ∗ (∃ f, arg20.view.loc (c : Thread nD τ) ↦[arg20.view.set]{fullShare} arg20.view.writes (Elt F) f LT4) ∗ (∃ f, arg21.view.loc (c : Thread nD τ) ↦[arg21.view.set]{fullShare} arg21.view.writes (Elt F) f LT5)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, [], ?_, ?_, fun E K => ?run⟩
  case run =>
    simp only [cc0_dora_bwd_eq_skeleton]; unfold cc0_dora_bwd_skel
    simp only [k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, ⟨%ds2, %fs2, -, HS2⟩, ⟨%fs3, %hfs3, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg16.eq_unread hfs0; obtain rfl := harg17.eq_unread hfs1; obtain rfl := harg19.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]; · iexists _; iexact HS0
    isplitl [HS1]; · iexists _; iexact HS1
    isplitl [HS2]
    · iexists _, _; isplitr; swap; · iexact HS2
      ipureintro; rfl
    isplitl [HS3]
    · iexists _; isplitr; · ipureintro; exact harg19.read_unread _
      iexact HS3
    isplitl [HS4]; · iexists _; iexact HS4
    iexists _; iexact HS5

end Cert.Kernel.Bits

end
-- ==== Proof.Bits.Frame.lean ====
/- The kernel's frame, for floats of any meaning: it terminates, its arguments are unchanged, its semaphores end at zero. Nothing is said of its results here. -/
module

public import proofs.«01_k».proof.Proof.Bits.RunC
public import Idealize.ShloMosaic.Lib.Claim

@[expose] public section

-- the long axes of the arrays need a deeper recursion
set_option maxRecDepth 16384

noncomputable section

namespace Cert.Kernel.Bits

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg16`, which the kernel carries between points, cover it: 2 pieces of `S1536x2304` tiling it (Lib/Ring.lean `Piece.tiledL`). -/
theorem scover0_A_0 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (y : S1536x2304.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).1 S1536x2304.size (by sl_kernel_rfl) y

/-- What case A leaves in scratch `arg16`: its pieces read back over junk. -/
def sout0_A_0 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) : Vec F S1536x2304 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).1)

/-- Case A's pieces for scratch `arg17`, which the kernel carries between points, cover it: 2 pieces of `S16x1536` tiling it (Lib/Ring.lean `Piece.tiledL`). -/
theorem scover0_A_1 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (y : S16x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.1 S16x1536.size (by sl_kernel_rfl) y

/-- What case A leaves in scratch `arg17`: its pieces read back over junk. -/
def sout0_A_1 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) : Vec F S16x1536 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.1)

/-- Case A's pieces for scratch `arg19`, which the kernel carries between points, cover it: 12 pieces of `S128x128` tiling it (Lib/Ring.lean `Piece.tiledL`). -/
theorem scover0_A_3 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (y : S1536x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.1 S128x128.size (by sl_kernel_rfl) y

/-- What case A leaves in scratch `arg19`: its pieces read back over junk. -/
def sout0_A_3 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) : Vec F S1536x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.1)

/-- Case B's pieces for scratch `arg16`, which the kernel carries between points, cover it: 1 piece of `S1536x2304` tiling it (Lib/Ring.lean `Piece.tiledL`). -/
theorem scover0_B_0 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) (y : S1536x2304.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).1 S1536x2304.size (by sl_kernel_rfl) y

/-- What case B leaves in scratch `arg16`: its pieces read back over junk. -/
def sout0_B_0 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) : Vec F S1536x2304 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).1)

/-- Case B's pieces for scratch `arg17`, which the kernel carries between points, cover it: 1 piece of `S16x1536` tiling it (Lib/Ring.lean `Piece.tiledL`). -/
theorem scover0_B_1 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) (y : S16x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).2.1 S16x1536.size (by sl_kernel_rfl) y

/-- What case B leaves in scratch `arg17`: its pieces read back over junk. -/
def sout0_B_1 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) : Vec F S16x1536 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).2.1)

/-- Case B stores nothing into scratch `arg19`: it holds what the point before left. -/
def sout0_B_3 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) : Vec F S1536x128 .f32 := xs3

/-- Case C's pieces for scratch `arg16`, which the kernel carries between points, cover it: 1 piece of `S1536x2304` tiling it (Lib/Ring.lean `Piece.tiledL`). -/
theorem scover0_C_0 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) (y : S1536x2304.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).1 S1536x2304.size (by sl_kernel_rfl) y

/-- What case C leaves in scratch `arg16`: its pieces read back over junk. -/
def sout0_C_0 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) : Vec F S1536x2304 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).1)

/-- Case C's pieces for scratch `arg17`, which the kernel carries between points, cover it: 1 piece of `S16x1536` tiling it (Lib/Ring.lean `Piece.tiledL`). -/
theorem scover0_C_1 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) (y : S16x1536.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).2.1 S16x1536.size (by sl_kernel_rfl) y

/-- What case C leaves in scratch `arg17`: its pieces read back over junk. -/
def sout0_C_1 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) : Vec F S16x1536 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs3).2.1)

/-- Case C stores nothing into scratch `arg19`: it holds what the point before left. -/
def sout0_C_3 (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs3 : Vec F S1536x128 .f32) : Vec F S1536x128 .f32 := xs3

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x2304 .f32 × Vec F S16x1536 .f32 × Vec F S1536x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 18 = 0 then
      if h1 : (n + 1) % 18 = 17 then
        False.elim (by have hN : n + 1 < 18 := lt_of_lt_of_eq hn (show cfg0.N = 18 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 18 = 17 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 18 = 0) (h1 : ¬t.val % 18 = 17) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 18 = 0) (h1 : ¬t.val % 18 = 17) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 18 = 0) (h1 : t.val % 18 = 17) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2) ∗ (∃ d, owns (c : Thread nD τ) scM0_4 fullShare d) ∗ (∃ d, owns (c : Thread nD τ) scM0_5 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ (∃ d, owns (c : Thread nD τ) scM0_2 fullShare d) ∗ owns (c : Thread nD τ) scM0_3 fullShare ((outsAt0 m c (n - 1) (by omega)).2.2) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-! ## The pipeline's proof data -/

/-- The output windows this certificate FORGETS (8, 9, 10, 11, 12, 13, 14): nothing reads what the kernel leaves in them, so nothing
    of it is named (Lib/Pipeline/Dat.lean `Dat.toRForget`). -/
def forgets0 : Fin 15 → Bool := fun w => w.val == 8 || w.val == 9 || w.val == 10 || w.val == 11 || w.val == 12 || w.val == 13 || w.val == 14

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 18 := lt_of_lt_of_eq t.isLt (show cfg0.N = 18 from N_0)
  by_cases h0 : t.val % 18 = 0
  · by_cases h1 : t.val % 18 = 17
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      by_cases hz : t.val = 0
      · rw [PhiS_castSucc m c t, PhiS_zero m c _ _ hz, PhiA0_eq]
        rw [outsAt0_A m c t h0 h1]
        unfold sout0_A_0 sout0_A_1 sout0_A_3; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, H10, H11, H12, H13, H14, ⟨%es0, HS0⟩, ⟨%es1, HS1⟩, HS2, ⟨%es3, HS3⟩, ⟨%fT4, HS4⟩, ⟨%fT5, HS5⟩⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _)
            isplitl [HS2]
            · iexact HS2
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _)
            isplitl [HS4]
            · iexists _; unfold owns; iexists _; isplitr
              swap; · iexact HS4
              ipureintro; rfl
            iexists _; unfold owns; iexists _; isplitr
            swap; · iexact HS5
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · exfalso; have hN : t.val < 18 := lt_of_lt_of_eq t.isLt (show cfg0.N = 18 from N_0); omega
  · by_cases h1 : t.val % 18 = 17
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 18 := lt_of_lt_of_eq t.isLt (show cfg0.N = 18 from N_0); omega
      · rw [PhiS_castSucc m c t, PhiS_pos m c _ _ hz]
        rw [outsAt0_C m c t h0 h1]
        unfold sout0_C_0 sout0_C_1 sout0_C_3; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, H10, H11, H12, H13, H14, ⟨%es0, HS0⟩, ⟨%es1, HS1⟩, HS2, HS3, ⟨%fT4, HS4⟩, ⟨%fT5, HS5⟩⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · iexact HS2
            isplitl [HS3]
            · iexact HS3
            isplitl [HS4]
            · iexists _; unfold owns; iexists _; isplitr
              swap; · iexact HS4
              ipureintro; rfl
            iexists _; unfold owns; iexists _; isplitr
            swap; · iexact HS5
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      by_cases hz : t.val = 0
      · exfalso; have hN : t.val < 18 := lt_of_lt_of_eq t.isLt (show cfg0.N = 18 from N_0); omega
      · rw [PhiS_castSucc m c t, PhiS_pos m c _ _ hz]
        rw [outsAt0_B m c t h0 h1]
        unfold sout0_B_0 sout0_B_1 sout0_B_3; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, H10, H11, H12, H13, H14, ⟨%es0, HS0⟩, ⟨%es1, HS1⟩, HS2, HS3, ⟨%fT4, HS4⟩, ⟨%fT5, HS5⟩⟩
        isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · iexact HS2
            isplitl [HS3]
            · iexact HS3
            isplitl [HS4]
            · iexists _; unfold owns; iexists _; isplitr
              swap; · iexact HS4
              ipureintro; rfl
            iexists _; unfold owns; iexists _; isplitr
            swap; · iexact HS5
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexact HS2
    isplitl [HS3]
    · iexists _; iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 18 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- For any values, from any memory with zero counters: every weakly fair execution of @main on the
    TensorCores terminates, and every final state has every INPUT array of the pipeline unchanged, nothing stated of the
    FORGOTTEN outputs (windows 8, 9, 10, 11, 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The frame, for floats of any meaning: every fair execution of the kernel terminates, each of its eight argument arrays ends as it
    began, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Bits

end
-- ==== Proof.Kern.Spec.lean ====
/- The backward pass of the layer as mathematics over the extended reals: the seven results as functions of the arguments. -/
module

public import proofs.«01_k».proof.Proof.Gen.KernelIdeal.Frame
public import Idealize.ShloMosaic.Lib.Pointwise
public import Idealize.ShloMosaic.PureOps.Ideal.Laws

@[expose] public section

noncomputable section

namespace Cert.Dora

open Idealize.ShloMosaic

/-- The arguments as real-valued tables: `x` and `dy` have one row to a token, `w` and `b` one row to an output channel. -/
structure Data where
  x : Fin 1536 → Fin 2304 → EReal
  w : Fin 9216 → Fin 2304 → EReal
  ws : Fin 9216 → EReal
  a : Fin 16 → Fin 2304 → EReal
  b : Fin 9216 → Fin 16 → EReal
  mag : Fin 9216 → EReal
  dy : Fin 1536 → Fin 9216 → EReal
  dys : Fin 1536 → EReal

/-- Token `t` is position `t % 128` of sequence `t / 128`. -/
abbrev seqOf (t : Fin 1536) : Fin 12 := ⟨t.val / 128, by have := t.isLt; omega⟩
abbrev posOf (t : Fin 1536) : Fin 128 := ⟨t.val % 128, Nat.mod_lt _ (by decide)⟩

/-- The tables of the eight argument arrays. -/
def ofArgs (x0 : Vec Ideal KernelIdeal.S12x128x2304 .bf16) (x1 : Vec Ideal KernelIdeal.S9216x2304 .fp8e4m3)
    (x2 : Vec Ideal KernelIdeal.S9216 .f32) (x3 : Vec Ideal KernelIdeal.S16x2304 .bf16) (x4 : Vec Ideal KernelIdeal.S9216x16 .bf16)
    (x5 : Vec Ideal KernelIdeal.S9216 .f32) (x6 : Vec Ideal KernelIdeal.S12x128x9216 .fp8e5m2)
    (x7 : Vec Ideal KernelIdeal.S12x128 .f32) : Data where
  x t i := x0 (ix3 (seqOf t) (posOf t) i)
  w o i := x1 (ix2 o i)
  ws o := x2 (ix1 o)
  a r i := x3 (ix2 r i)
  b o r := x4 (ix2 o r)
  mag o := x5 (ix1 o)
  dy t o := x6 (ix3 (seqOf t) (posOf t) o)
  dys t := x7 (ix2 (seqOf t) (posOf t))

namespace Data

variable (D : Data)

/-- The directions: the decoded base weight plus `b · a`. -/
def v (o : Fin 9216) (i : Fin 2304) : EReal := D.w o i * D.ws o + ∑ r : Fin 16, D.b o r * D.a r i

/-- Their norms, a row each. -/
def n (o : Fin 9216) : EReal := Ideal.sqrt (∑ i : Fin 2304, D.v o i * D.v o i)

/-- Magnitude over norm. -/
def c (o : Fin 9216) : EReal := Ideal.div (D.mag o) (D.n o)

/-- `z = x · vᵀ`. -/
def z (t : Fin 1536) (o : Fin 9216) : EReal := ∑ i : Fin 2304, D.x t i * D.v o i

/-- The decoded gradient of the output. -/
def dyd (t : Fin 1536) (o : Fin 9216) : EReal := D.dy t o * D.dys t

/-- The gradient that reaches `z`. -/
def g (t : Fin 1536) (o : Fin 9216) : EReal := D.dyd t o * D.c o

/-- The gradient of `x`. -/
def dx (t : Fin 1536) (i : Fin 2304) : EReal := ∑ o : Fin 9216, D.g t o * D.v o i

/-- `x · aᵀ`. -/
def xa (t : Fin 1536) (r : Fin 16) : EReal := ∑ i : Fin 2304, D.x t i * D.a r i

/-- `g · b`. -/
def gb (t : Fin 1536) (r : Fin 16) : EReal := ∑ o : Fin 9216, D.g t o * D.b o r

/-- The gradient of `a`. -/
def da (r : Fin 16) (i : Fin 2304) : EReal := ∑ t : Fin 1536, D.gb t r * D.x t i

/-- The gradient of `b`. -/
def db (o : Fin 9216) (r : Fin 16) : EReal := ∑ t : Fin 1536, D.g t o * D.xa t r

/-- The gradient of the magnitudes. -/
def dm (o : Fin 9216) : EReal := Ideal.div (∑ t : Fin 1536, D.dyd t o * D.z t o) (D.n o)

end Data

end Cert.Dora

end
-- ==== Proof.Kern.Block.lean ====
/- The kernel's arithmetic at one grid point, over the extended reals: what each block the body stores is, as a function
   of the input blocks and of what the scratch buffers hold, read at an index. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Kern

open Cert.KernelIdeal Cert.KernelIdeal.Gen
open Idealize.ShloMosaic Idealize.SL.Sem
open scoped BigOperators

/-! ## The blocks

`x0` … `x7` are the input blocks: the tokens `x`, 512 rows of the codes `w`, their scales, `lora_a`, 512 rows of
`lora_b`, 512 magnitudes, 512 columns of the codes `dy`, and the scales of `dy`, 128 tokens to a row. -/

/-- Row `o` of the effective weight: `w · scale + b · a`. -/
def vB (x1 : Vec Ideal S512x2304 .fp8e4m3) (x2 : Vec Ideal S1x512 .f32) (x3 : Vec Ideal S16x2304 .bf16)
    (x4 : Vec Ideal S512x16 .bf16) : Vec Ideal S512x2304 .bf16 :=
  fun y => ((x1 y : EReal) * x2 (ix2 0 (y 0)) + ∑ r : Fin 16, (x4 (ix2 (y 0) r) : EReal) * x3 (ix2 r (y 1)) : EReal)

/-- The norm of each of the 512 rows. -/
def nB (v : Vec Ideal S512x2304 .bf16) : Vec Ideal S1x512 .f32 :=
  fun y => Ideal.sqrt (∑ i : Fin 2304, (v (ix2 (y 1) i) : EReal) * v (ix2 (y 1) i))

/-- The magnitude over the norm. -/
def cB (x5 n : Vec Ideal S1x512 .f32) : Vec Ideal S1x512 .f32 := fun y => Ideal.div (x5 y) (n y)

/-- The scales of `dy`, one token to a row, alike in every lane. -/
def dysB (x7 : Vec Ideal S12x128 .f32) : Vec Ideal S1536x128 .f32 :=
  fun y => x7 (ix2 ⟨(y 0).val / 128, by have : (y 0).val < 1536 := (y 0).isLt; omega⟩ ⟨(y 0).val % 128, Nat.mod_lt _ (by decide)⟩)

/-- `dy` as it is meant: the codes by the token's scale. -/
def dyB (x6 : Vec Ideal S1536x512 .fp8e5m2) (s : Vec Ideal S1536x128 .f32) : Vec Ideal S1536x512 .f32 :=
  fun y => ((x6 y : EReal) * s (ix2 (y 0) ⟨(y 1).val % 128, Nat.mod_lt _ (by decide)⟩) : EReal)

/-- The gradient of the unnormalized product. -/
def gB (x6 : Vec Ideal S1536x512 .fp8e5m2) (s : Vec Ideal S1536x128 .f32) (c : Vec Ideal S1x512 .f32) : Vec Ideal S1536x512 .bf16 :=
  fun y => ((dyB x6 s y : EReal) * c (ix2 0 (y 1)) : EReal)

/-- `x · vᵀ`. -/
def zB (x0 : Vec Ideal S1536x2304 .bf16) (v : Vec Ideal S512x2304 .bf16) : Vec Ideal S1536x512 .bf16 :=
  fun y => (∑ i : Fin 2304, (x0 (ix2 (y 0) i) : EReal) * v (ix2 (y 1) i) : EReal)

/-- The gradient of the magnitudes. -/
def dmB (x6 : Vec Ideal S1536x512 .fp8e5m2) (s : Vec Ideal S1536x128 .f32) (z : Vec Ideal S1536x512 .bf16) (n : Vec Ideal S1x512 .f32) :
    Vec Ideal S1x512 .f32 :=
  fun y => Ideal.div (∑ t : Fin 1536, (dyB x6 s (ix2 t (y 1)) : EReal) * z (ix2 t (y 1))) (n y)

/-- `a · xᵀ`. -/
def xatB (x0 : Vec Ideal S1536x2304 .bf16) (x3 : Vec Ideal S16x2304 .bf16) : Vec Ideal S16x1536 .bf16 :=
  fun y => (∑ i : Fin 2304, (x3 (ix2 (y 0) i) : EReal) * x0 (ix2 (y 1) i) : EReal)

/-- `x · aᵀ`. -/
def xaB (x0 : Vec Ideal S1536x2304 .bf16) (x3 : Vec Ideal S16x2304 .bf16) : Vec Ideal S1536x16 .bf16 :=
  fun y => xatB x0 x3 (ix2 (y 1) (y 0))

/-- The gradient of the 512 rows of `lora_b`. -/
def dbB (xat : Vec Ideal S16x1536 .bf16) (g : Vec Ideal S1536x512 .bf16) : Vec Ideal S512x16 .bf16 :=
  fun y => (∑ t : Fin 1536, (xat (ix2 (y 1) t) : EReal) * g (ix2 t (y 0)) : EReal)

/-- What a point adds to the gradient of `x`: `g · v` over its 512 rows. -/
def accB (v : Vec Ideal S512x2304 .bf16) (g : Vec Ideal S1536x512 .bf16) (acc : Vec Ideal S1536x2304 .f32) : Vec Ideal S1536x2304 .f32 :=
  fun y => ((acc y : EReal) + ∑ o : Fin 512, (g (ix2 (y 0) o) : EReal) * v (ix2 o (y 1)) : EReal)

/-- What a point adds to `bᵀ · gᵀ` over its 512 rows. -/
def gbtB (x4 : Vec Ideal S512x16 .bf16) (g : Vec Ideal S1536x512 .bf16) (gbt : Vec Ideal S16x1536 .f32) : Vec Ideal S16x1536 .f32 :=
  fun y => ((gbt y : EReal) + ∑ o : Fin 512, (x4 (ix2 o (y 0)) : EReal) * g (ix2 (y 1) o) : EReal)

/-- The transpose of what has been added up. -/
def gbB (gbt : Vec Ideal S16x1536 .f32) : Vec Ideal S1536x16 .bf16 := fun y => gbt (ix2 (y 1) (y 0))

/-- The gradient of `lora_a`. -/
def daB (gbt : Vec Ideal S16x1536 .f32) (x0 : Vec Ideal S1536x2304 .bf16) : Vec Ideal S16x2304 .bf16 :=
  fun y => (∑ t : Fin 1536, (gbt (ix2 (y 0) t) : EReal) * x0 (ix2 t (y 1)) : EReal)

/-- The gradient of `x`, in the format it is returned in. -/
def dxB (acc : Vec Ideal S1536x2304 .f32) : Vec Ideal S1536x2304 .bf16 := fun y => acc y

/-! ## Whole loads -/

/-- The zero offset of a whole load or store. -/
theorem hz : (![0, 0] : Fin 2 → ℕ) = fun _ => 0 := funext fun a => by fin_cases a <;> rfl

/-- A whole load of what stores left reads what they left. -/
theorem readCov_whole {S : Shape} {e : EltTy} (w : View sig .tc .vmem S e) (L : List (View.Piece (Elt Ideal) S e))
    {off : Fin S.rank → ℕ} (h : off = fun _ => 0) (inb : ∀ a, off a + S.size a ≤ S.size a) :
    w.readCov L (Rect.unit off S.size inb).toLoadRect = View.canon L := by
  rw [View.readCov_eq_canon']
  exact View.ld_unit_zero h inb (View.canon L)

/-! ## The effective weight and its row norms -/

section Weight
variable (x1 : Vec Ideal S512x2304 .fp8e4m3) (x2 : Vec Ideal S1x512 .f32) (x3 : Vec Ideal S16x2304 .bf16) (x4 : Vec Ideal S512x16 .bf16)

/-- The scales, one row of the weight to a row, alike in every lane. -/
theorem scale_apply (o : Fin 512) (l : Fin 128) : k0_pay27 x2 (ix2 o l) = x2 (ix2 0 o) := by
  pointwise [k0_pay27]
  split_ifs <;> exact congrArg (fun i => x2 (ix2 0 i)) (Fin.ext (by dsimp only <;> omega))

/-- `b · a` at an index. -/
theorem ba_apply (o : Fin 512) (l : Fin 2304) :
    k0_pay28 x4 x3 (ix2 o l) = ∑ r : Fin 16, (x4 (ix2 o r) : EReal) * x3 (ix2 r l) := by
  pointwise [k0_pay28]

/-- A load of 128 lanes of the codes from lane `off` on. -/
theorem ld_lanes (off : ℕ) (h : ∀ a, (![0, off] : Fin 2 → ℕ) a + S512x128.size a ≤ S512x2304.size a) (o : Fin 512) (l : Fin 128) :
    View.ld x1 (Rect.unit ![0, off] S512x128.size h) (ix2 o l)
      = x1 (ix2 o ⟨off + l.val, by have h1 : off + 128 ≤ 2304 := h 1; omega⟩) :=
  View.ld_unit_apply_of _ _ _ _ _ _ fun a => by fin_cases a <;> simp [ix2]

/-- The weight's block, stored 128 lanes at a time: the last store first. -/
def vTiles : List (View.Piece (Elt Ideal) S512x2304 .bf16) :=
  [⟨Rect.unit ![0, 2176] S512x128.size inb_S512x2304_S512x128_0_2176, k0_pay75 (k0_pay27 x2) (k0_pay28 x4 x3) (View.ld x1 (Rect.unit ![0, 2176] S512x128.size inb_S512x2304_S512x128_0_2176))⟩,
   ⟨Rect.unit ![0, 2048] S512x128.size inb_S512x2304_S512x128_0_2048, k0_pay73 (k0_pay70 (k0_pay27 x2) (View.ld x1 (Rect.unit ![0, 2048] S512x128.size inb_S512x2304_S512x128_0_2048))) (k0_pay71 (k0_pay28 x4 x3))⟩,
   ⟨Rect.unit ![0, 1920] S512x128.size inb_S512x2304_S512x128_0_1920, k0_pay69 (k0_pay27 x2) (k0_pay28 x4 x3) (View.ld x1 (Rect.unit ![0, 1920] S512x128.size inb_S512x2304_S512x128_0_1920))⟩,
   ⟨Rect.unit ![0, 1792] S512x128.size inb_S512x2304_S512x128_0_1792, k0_pay66 (k0_pay27 x2) (k0_pay28 x4 x3) (View.ld x1 (Rect.unit ![0, 1792] S512x128.size inb_S512x2304_S512x128_0_1792))⟩,
   ⟨Rect.unit ![0, 1664] S512x128.size inb_S512x2304_S512x128_0_1664, k0_pay64 (k0_pay27 x2) (k0_pay28 x4 x3) (View.ld x1 (Rect.unit ![0, 1664] S512x128.size inb_S512x2304_S512x128_0_1664))⟩,
   ⟨Rect.unit ![0, 1536] S512x128.size inb_S512x2304_S512x128_0_1536, k0_pay62 (k0_pay61 (k0_pay27 x2) (k0_pay28 x4 x3) (View.ld x1 (Rect.unit ![0, 1536] S512x128.size inb_S512x2304_S512x128_0_1536)))⟩,
   ⟨Rect.unit ![0, 1408] S512x128.size inb_S512x2304_S512x128_0_1408, k0_pay58 (k0_pay27 x2) (k0_pay28 x4 x3) (View.ld x1 (Rect.unit ![0, 1408] S512x128.size inb_S512x2304_S512x128_0_1408))⟩,
   ⟨Rect.unit ![0, 1280] S512x128.size inb_S512x2304_S512x128_0_1280, k0_pay56 (k0_pay27 x2) (k0_pay28 x4 x3) (View.ld x1 (Rect.unit ![0, 1280] S512x128.size inb_S512x2304_S512x128_0_1280))⟩,
   ⟨Rect.unit ![0, 1152] S512x128.size inb_S512x2304_S512x128_0_1152, k0_pay54 (k0_pay27 x2) (k0_pay28 x4 x3) (View.ld x1 (Rect.unit ![0, 1152] S512x128.size inb_S512x2304_S512x128_0_1152))⟩,
   ⟨Rect.unit ![0, 1024] S512x128.size inb_S512x2304_S512x128_0_1024, k0_pay52 (k0_pay51 (k0_pay27 x2) (k0_pay28 x4 x3) (View.ld x1 (Rect.unit ![0, 1024] S512x128.size inb_S512x2304_S512x128_0_1024)))⟩,
   ⟨Rect.unit ![0, 896] S512x128.size inb_S512x2304_S512x128_0_896, k0_pay48 (k0_pay27 x2) (k0_pay28 x4 x3) (View.ld x1 (Rect.unit ![0, 896] S512x128.size inb_S512x2304_S512x128_0_896))⟩,
   ⟨Rect.unit ![0, 768] S512x128.size inb_S512x2304_S512x128_0_768, k0_pay46 (k0_pay27 x2) (k0_pay28 x4 x3) (View.ld x1 (Rect.unit ![0, 768] S512x128.size inb_S512x2304_S512x128_0_768))⟩,
   ⟨Rect.unit ![0, 640] S512x128.size inb_S512x2304_S512x128_0_640, k0_pay44 (k0_pay27 x2) (k0_pay28 x4 x3) (View.ld x1 (Rect.unit ![0, 640] S512x128.size inb_S512x2304_S512x128_0_640))⟩,
   ⟨Rect.unit ![0, 512] S512x128.size inb_S512x2304_S512x128_0_512, k0_pay42 (k0_pay27 x2) (k0_pay28 x4 x3) (View.ld x1 (Rect.unit ![0, 512] S512x128.size inb_S512x2304_S512x128_0_512))⟩,
   ⟨Rect.unit ![0, 384] S512x128.size inb_S512x2304_S512x128_0_384, k0_pay39 (k0_pay27 x2) (k0_pay28 x4 x3) (View.ld x1 (Rect.unit ![0, 384] S512x128.size inb_S512x2304_S512x128_0_384))⟩,
   ⟨Rect.unit ![0, 256] S512x128.size inb_S512x2304_S512x128_0_256, k0_pay37 (k0_pay27 x2) (k0_pay28 x4 x3) (View.ld x1 (Rect.unit ![0, 256] S512x128.size inb_S512x2304_S512x128_0_256))⟩,
   ⟨Rect.unit ![0, 128] S512x128.size inb_S512x2304_S512x128_0_128, k0_pay35 (k0_pay32 x2 (View.ld x1 (Rect.unit ![0, 128] S512x128.size inb_S512x2304_S512x128_0_128))) (k0_pay33 x4 x3)⟩,
   ⟨Rect.unit ![0, 0] S512x128.size inb_S512x2304_S512x128_0_0, k0_pay31 x2 x4 x3 (View.ld x1 (Rect.unit ![0, 0] S512x128.size inb_S512x2304_S512x128_0_0))⟩]

/-- Read back whole, it is the weight. -/
theorem canon_vTiles : View.canon (vTiles x1 x2 x3 x4) = vB x1 x2 x3 x4 := by
  funext y
  unfold vTiles
  canon_tiles l h
  all_goals
    obtain ⟨o, j, rfl⟩ : ∃ (o : Fin 512) (j : Fin 128), l = ix2 o j := ⟨l 0, l 1, eq_ix2 l⟩
    obtain ⟨o', ⟨i, hi⟩, rfl⟩ : ∃ (o' : Fin 512) (i : Fin 2304), y = ix2 o' i := ⟨y 0, y 1, eq_ix2 y⟩
    obtain rfl : o' = o := Fin.ext h0
    obtain rfl : i = _ := h1
    pointwise [vB, k0_pay31, k0_pay35, k0_pay37, k0_pay39, k0_pay42, k0_pay44, k0_pay46, k0_pay48, k0_pay52, k0_pay54, k0_pay56, k0_pay58,
      k0_pay62, k0_pay64, k0_pay66, k0_pay69, k0_pay73, k0_pay75,
      k0_pay30, k0_pay29, k0_pay32, k0_pay33, k0_pay34, k0_pay36, k0_pay38, k0_pay40,
      k0_pay43, k0_pay45, k0_pay47, k0_pay49, k0_pay51, k0_pay53, k0_pay55, k0_pay57, k0_pay59, k0_pay61, k0_pay63, k0_pay65, k0_pay67, k0_pay70,
      k0_pay71, k0_pay72, k0_pay74]
    simp only [scale_apply, ba_apply]

/-- The first sixteen chunks' squares, added up lane by lane. -/
def sqChain : FVec Ideal S512x128 .f32 :=
  k0_pay68 (k0_pay27 x2) (k0_pay28 x4 x3)
    (k0_pay60 (k0_pay27 x2) (k0_pay28 x4 x3)
      (k0_pay50 (k0_pay27 x2) (k0_pay28 x4 x3)
        (k0_pay41 (k0_pay27 x2) (k0_pay28 x4 x3) (k0_pay30 x2 x4 x3 (View.ld x1 (Rect.unit ![0, 0] S512x128.size inb_S512x2304_S512x128_0_0))) (k0_pay32 x2 (View.ld x1 (Rect.unit ![0, 128] S512x128.size inb_S512x2304_S512x128_0_128))) (k0_pay33 x4 x3) (View.ld x1 (Rect.unit ![0, 256] S512x128.size inb_S512x2304_S512x128_0_256)) (View.ld x1 (Rect.unit ![0, 384] S512x128.size inb_S512x2304_S512x128_0_384)) (View.ld x1 (Rect.unit ![0, 512] S512x128.size inb_S512x2304_S512x128_0_512)))
        (View.ld x1 (Rect.unit ![0, 640] S512x128.size inb_S512x2304_S512x128_0_640)) (View.ld x1 (Rect.unit ![0, 768] S512x128.size inb_S512x2304_S512x128_0_768)) (View.ld x1 (Rect.unit ![0, 896] S512x128.size inb_S512x2304_S512x128_0_896)) (View.ld x1 (Rect.unit ![0, 1024] S512x128.size inb_S512x2304_S512x128_0_1024)))
      (View.ld x1 (Rect.unit ![0, 1152] S512x128.size inb_S512x2304_S512x128_0_1152)) (View.ld x1 (Rect.unit ![0, 1280] S512x128.size inb_S512x2304_S512x128_0_1280)) (View.ld x1 (Rect.unit ![0, 1408] S512x128.size inb_S512x2304_S512x128_0_1408)) (View.ld x1 (Rect.unit ![0, 1536] S512x128.size inb_S512x2304_S512x128_0_1536)))
    (View.ld x1 (Rect.unit ![0, 1664] S512x128.size inb_S512x2304_S512x128_0_1664)) (View.ld x1 (Rect.unit ![0, 1792] S512x128.size inb_S512x2304_S512x128_0_1792)) (View.ld x1 (Rect.unit ![0, 1920] S512x128.size inb_S512x2304_S512x128_0_1920))

/-- The row norms as the body computes them. -/
def nPay : FVec Ideal S1x512 .f32 :=
  k0_pay76 (k0_pay27 x2) (k0_pay28 x4 x3) (sqChain x1 x2 x3 x4) (k0_pay70 (k0_pay27 x2) (View.ld x1 (Rect.unit ![0, 2048] S512x128.size inb_S512x2304_S512x128_0_2048))) (k0_pay71 (k0_pay28 x4 x3)) (View.ld x1 (Rect.unit ![0, 2176] S512x128.size inb_S512x2304_S512x128_0_2176))

/-- All eighteen chunks' squares in lane `l`. -/
theorem sq_apply (o : Fin 512) (l : Fin 128) :
    (sqChain x1 x2 x3 x4 (ix2 o l) : EReal)
        + k0_pay72 (k0_pay70 (k0_pay27 x2) (View.ld x1 (Rect.unit ![0, 2048] S512x128.size inb_S512x2304_S512x128_0_2048))) (k0_pay71 (k0_pay28 x4 x3)) (ix2 o l)
          * k0_pay72 (k0_pay70 (k0_pay27 x2) (View.ld x1 (Rect.unit ![0, 2048] S512x128.size inb_S512x2304_S512x128_0_2048))) (k0_pay71 (k0_pay28 x4 x3)) (ix2 o l)
        + k0_pay74 (k0_pay27 x2) (k0_pay28 x4 x3) (View.ld x1 (Rect.unit ![0, 2176] S512x128.size inb_S512x2304_S512x128_0_2176)) (ix2 o l) * k0_pay74 (k0_pay27 x2) (k0_pay28 x4 x3) (View.ld x1 (Rect.unit ![0, 2176] S512x128.size inb_S512x2304_S512x128_0_2176)) (ix2 o l)
      = ∑ k : Fin 18, (vB x1 x2 x3 x4 (ix2 o ⟨k.val * 128 + l.val, by omega⟩) : EReal) * vB x1 x2 x3 x4 (ix2 o ⟨k.val * 128 + l.val, by omega⟩) := by
  simp only [Fin.sum_univ_castSucc, Fin.sum_univ_zero, zero_add, Fin.val_castSucc, Fin.val_last, Nat.reduceMul, Nat.reduceAdd, Nat.zero_mul]
  unfold sqChain
  pointwise [vB, k0_pay68, k0_pay60, k0_pay50, k0_pay41, k0_pay30, k0_pay29, k0_pay32, k0_pay33, k0_pay34, k0_pay36, k0_pay38, k0_pay40,
    k0_pay43, k0_pay45, k0_pay47, k0_pay49, k0_pay51, k0_pay53, k0_pay55, k0_pay57, k0_pay59, k0_pay61, k0_pay63, k0_pay65, k0_pay67, k0_pay70,
    k0_pay71, k0_pay72, k0_pay74]
  simp only [ld_lanes, scale_apply, ba_apply, Nat.zero_add]

/-- They are the weight's row norms. -/
theorem nPay_eq : nPay x1 x2 x3 x4 = nB (vB x1 x2 x3 x4) := by
  funext y
  obtain ⟨a, o, rfl⟩ : ∃ (a : Fin 1) (o : Fin 512), y = ix2 a o := ⟨y 0, y 1, (eq_ix2 y)⟩
  unfold nPay
  have fold : ∀ (f : Fin 512 → EReal) (o : Fin 512),
      (if h : o.val < 128 then f ⟨o.val, by omega⟩ else if h : o.val - 128 < 128 then f ⟨128 + (o.val - 128), by omega⟩
        else if h : o.val - 128 - 128 < 128 then f ⟨256 + (o.val - 128 - 128), by omega⟩ else f ⟨384 + (o.val - 128 - 128 - 128), by omega⟩) = f o := by
    intro f o
    split_ifs <;> exact congrArg f (Fin.ext (by dsimp only <;> omega))
  pointwise [k0_pay76, nB]
  simp only [sq_apply]
  refine congrArg Ideal.sqrt ?_
  refine (fold (fun o => ∑ l : Fin 128, ∑ k : Fin 18,
    (vB x1 x2 x3 x4 (ix2 o ⟨k.val * 128 + l.val, by omega⟩) : EReal) * vB x1 x2 x3 x4 (ix2 o ⟨k.val * 128 + l.val, by omega⟩)) o).trans ?_
  rw [Finset.sum_comm]
  exact Fin.sum_mul_add_congr fun k l hl => rfl

/-- The magnitude over the norm as the body computes it. -/
theorem cPay_eq (x5 : Vec Ideal S1x512 .f32) :
    k0_pay77 (k0_pay27 x2) (k0_pay28 x4 x3) (sqChain x1 x2 x3 x4) (k0_pay70 (k0_pay27 x2) (View.ld x1 (Rect.unit ![0, 2048] S512x128.size inb_S512x2304_S512x128_0_2048))) (k0_pay71 (k0_pay28 x4 x3)) (View.ld x1 (Rect.unit ![0, 2176] S512x128.size inb_S512x2304_S512x128_0_2176)) x5
      = cB x5 (nB (vB x1 x2 x3 x4)) := by
  funext y
  rw [← nPay_eq]
  unfold nPay
  pointwise [k0_pay77, cB]

end Weight

/-! ## The gradients' blocks -/

section Gradients
variable (x0 : Vec Ideal S1536x2304 .bf16) (x3 : Vec Ideal S16x2304 .bf16) (x4 : Vec Ideal S512x16 .bf16)
  (x6 : Vec Ideal S1536x512 .fp8e5m2) (s : Vec Ideal S1536x128 .f32) (n c : Vec Ideal S1x512 .f32)
  (v : Vec Ideal S512x2304 .bf16) (g : Vec Ideal S1536x512 .bf16)

/-- A load of 128 lanes of the codes of `dy` from lane `off` on. -/
theorem ld_dy (off : ℕ) (h : ∀ a, (![0, off] : Fin 2 → ℕ) a + S1536x128.size a ≤ S1536x512.size a) (t : Fin 1536) (l : Fin 128) :
    View.ld x6 (Rect.unit ![0, off] S1536x128.size h) (ix2 t l)
      = x6 (ix2 t ⟨off + l.val, by have h1 : off + 128 ≤ 512 := h 1; omega⟩) :=
  View.ld_unit_apply_of _ _ _ _ _ _ fun a => by fin_cases a <;> simp [ix2]

theorem zPay_eq : k0_pay79 v (k0_pay78 x0) = zB x0 v := by
  funext y
  pointwise [k0_pay78, k0_pay79, zB]

theorem zStore_eq : k0_pay80 v (k0_pay78 x0) = zB x0 v := by
  funext y
  pointwise [k0_pay78, k0_pay79, k0_pay80, zB]

/-- The gradient's block, stored 128 lanes at a time: the last store first. -/
def gTiles : List (View.Piece (Elt Ideal) S1536x512 .bf16) :=
  [⟨Rect.unit ![0, 384] S1536x128.size inb_S1536x512_S1536x128_0_384,
     k0_pay91 c (View.ld x6 (Rect.unit ![0, 384] S1536x128.size inb_S1536x512_S1536x128_0_384)) s⟩,
   ⟨Rect.unit ![0, 256] S1536x128.size inb_S1536x512_S1536x128_0_256,
     k0_pay89 c (k0_pay87 (View.ld x6 (Rect.unit ![0, 256] S1536x128.size inb_S1536x512_S1536x128_0_256))) s⟩,
   ⟨Rect.unit ![0, 128] S1536x128.size inb_S1536x512_S1536x128_0_128,
     k0_pay86 c (View.ld x6 (Rect.unit ![0, 128] S1536x128.size inb_S1536x512_S1536x128_0_128)) s⟩,
   ⟨Rect.unit ![0, 0] S1536x128.size inb_S1536x512_S1536x128_0_0,
     k0_pay83 c (View.ld x6 (Rect.unit ![0, 0] S1536x128.size inb_S1536x512_S1536x128_0_0)) s⟩]

/-- Read back whole, it is the gradient of the unnormalized product. -/
theorem canon_gTiles : View.canon (gTiles x6 s c) = gB x6 s c := by
  funext y
  unfold gTiles
  canon_tiles l h
  all_goals
    obtain ⟨o, ⟨j, hj⟩, rfl⟩ : ∃ (o : Fin 1536) (j : Fin 128), l = ix2 o j := ⟨l 0, l 1, eq_ix2 l⟩
    obtain ⟨o', ⟨i, hi⟩, rfl⟩ : ∃ (o' : Fin 1536) (i : Fin 512), y = ix2 o' i := ⟨y 0, y 1, eq_ix2 y⟩
    obtain rfl : o' = o := Fin.ext h0
    obtain rfl : i = _ := h1
    pointwise [gB, dyB, k0_pay81, k0_pay83, k0_pay84, k0_pay86, k0_pay87, k0_pay88, k0_pay89, k0_pay90, k0_pay91]
    simp only [ld_dy, Nat.zero_add, Nat.add_mod, Nat.mod_eq_of_lt hj, Nat.reduceMod, Nat.mod_mod]
    done

theorem dmPay_eq :
    k0_pay92 n (zB x0 v)
      (k0_pay82 v (k0_pay78 x0) (View.ld x6 (Rect.unit ![0, 0] S1536x128.size inb_S1536x512_S1536x128_0_0)) s)
      (k0_pay85 v (k0_pay78 x0) (View.ld x6 (Rect.unit ![0, 128] S1536x128.size inb_S1536x512_S1536x128_0_128)) s)
      (k0_pay87 (View.ld x6 (Rect.unit ![0, 256] S1536x128.size inb_S1536x512_S1536x128_0_256))) s
      (View.ld x6 (Rect.unit ![0, 384] S1536x128.size inb_S1536x512_S1536x128_0_384)) s
      = dmB x6 s (zB x0 v) n := by
  funext y
  obtain ⟨a, o, rfl⟩ : ∃ (a : Fin 1) (o : Fin 512), y = ix2 a o := ⟨y 0, y 1, (eq_ix2 y)⟩
  pointwise [k0_pay92, k0_pay82, k0_pay85, k0_pay87, k0_pay88, k0_pay90, k0_pay81, k0_pay84, dmB, dyB, zPay_eq]
  have fold : ∀ (f : Fin 512 → Fin 128 → EReal) (o : Fin 512),
      (if h : o.val < 128 then f o ⟨o.val, by omega⟩ else if h : o.val - 128 < 128 then f ⟨128 + (o.val - 128), by omega⟩ ⟨o.val - 128, h⟩
        else if h : o.val - 128 - 128 < 128 then f ⟨256 + (o.val - 128 - 128), by omega⟩ ⟨o.val - 128 - 128, h⟩
        else f ⟨384 + (o.val - 128 - 128 - 128), by omega⟩ ⟨o.val - 128 - 128 - 128, by omega⟩) = f o ⟨o.val % 128, by omega⟩ := by
    intro f o
    split_ifs <;> exact congr (congrArg f (Fin.ext (by dsimp only <;> omega))) (Fin.ext (by dsimp only <;> omega))
  exact congrArg (fun d => Ideal.div d (n (ix2 a o)))
    (fold (fun o l => ∑ t : Fin 1536, (x6 (ix2 t o) : EReal) * s (ix2 t l) * zB x0 v (ix2 t o)) o)

theorem accPay_eq (acc : Vec Ideal S1536x2304 .f32) : k0_pay1 (k0_pay93 v g acc) = accB v g acc := by
  funext y
  pointwise [k0_pay1, k0_pay93, accB]

theorem gbtPay_eq (gbt : Vec Ideal S16x1536 .f32) : k0_pay2 g gbt x4 = gbtB x4 g gbt := by
  funext y
  pointwise [k0_pay2, gbtB]

theorem dbPay_eq (xat : Vec Ideal S16x1536 .bf16) : k0_pay3 g xat = dbB xat g := by
  funext y
  pointwise [k0_pay3, dbB]

theorem dxPay_eq (acc : Vec Ideal S1536x2304 .f32) : k0_pay4 acc = dxB acc := by
  funext y
  pointwise [k0_pay4, dxB]

theorem gbPay_eq (gbt : Vec Ideal S16x1536 .f32) : k0_pay5 gbt = gbB gbt := by
  funext y
  pointwise [k0_pay5, gbB]

theorem daPay_eq (gbt : Vec Ideal S16x1536 .f32) : k0_pay6 gbt x0 = daB gbt x0 := by
  funext y
  pointwise [k0_pay6, daB]

theorem xatPay_eq : k0_pay10 x3 x0 = xatB x0 x3 := by
  funext y
  pointwise [k0_pay10, k0_pay9, xatB]

theorem xaPay_eq : k0_pay11 x3 x0 = xaB x0 x3 := by
  funext y
  pointwise [k0_pay11, k0_pay9, xaB, xatB]

theorem accZero_eq : (k0_pay7 : FVec Ideal S1536x2304 .f32) = fun _ => (0 : EReal) := by
  funext y
  pointwise [k0_pay7]

theorem gbtZero_eq : (k0_pay8 : FVec Ideal S16x1536 .f32) = fun _ => (0 : EReal) := by
  funext y
  pointwise [k0_pay8]

end Gradients

end Cert.KernelIdeal.Kern

end
-- ==== Proof.Kern.Points.lean ====
/- What the runs of the kernel's body are stated over: which points take which of its two conditionals, at which
   points each output window is stored into and written back, and the buffers the body is called with. -/
module

public import proofs.«01_k».proof.Proof.Gen.KernelIdeal.Frame
public import proofs.«01_k».proof.Proof.Gen.KernelIdeal.Skeleton

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 18 = 17 :=
  (fun t => by
    have ht : t.val < 18 := Nat.lt_of_lt_of_eq t.isLt N_0
    have e0 : (grid0.coords t 0).val = t.val / 1 % 18 := Pipeline.Grid.coords_val t 0 (by decide) rfl
    simp only [cond0_1, k0_cond2, e0]
    word_cmp
   : ∀ t : Fin grid0.N, cond0_1 (grid0.coords t) ↔ t.val % 18 = 17)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 10 is never idle (an output stored at every point, under no condition). -/
theorem liveAt0_10 : ∀ t : Fin cfg0.N, cfg0.idle 10 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 13 live: the case stores into it. -/
theorem liveAt0_13_A : ∀ t : Fin cfg0.N, cond0_0 (grid0.coords t) → ¬cond0_1 (grid0.coords t) → cfg0.idle 13 (grid0.coords t) = false := by decide +kernel
/-- At the points of case B the printed configuration (`Cfg.idle`) calls output 13 idle: the case stores nothing into it. -/
theorem idleAt0_13_B : ∀ t : Fin cfg0.N, ¬cond0_0 (grid0.coords t) → ¬cond0_1 (grid0.coords t) → cfg0.idle 13 (grid0.coords t) = true := by decide +kernel
/-- At the points of case B the pipeline does not write output 13's block back. -/
theorem noFlush0_13_B : ∀ t : Fin cfg0.N, ¬cond0_0 (grid0.coords t) → ¬cond0_1 (grid0.coords t) → (cfg0.win 13).flush t = false := by decide +kernel
/-- At the last point the printed configuration calls output 13 idle too: it is stored into at the first point only. -/
theorem idleAt0_13_C : ∀ t : Fin cfg0.N, ¬cond0_0 (grid0.coords t) → cond0_1 (grid0.coords t) → cfg0.idle 13 (grid0.coords t) = true := by decide +kernel
/-- At the points of case A the printed configuration (`Cfg.idle`) calls output 14 idle: the case stores nothing into it. -/
theorem idleAt0_14_A : ∀ t : Fin cfg0.N, cond0_0 (grid0.coords t) → ¬cond0_1 (grid0.coords t) → cfg0.idle 14 (grid0.coords t) = true := by decide +kernel
/-- At the points of case A the pipeline does not write output 14's block back. -/
theorem noFlush0_14_A : ∀ t : Fin cfg0.N, cond0_0 (grid0.coords t) → ¬cond0_1 (grid0.coords t) → (cfg0.win 14).flush t = false := by decide +kernel
/-- At the points of case B the printed configuration (`Cfg.idle`) calls output 14 idle: the case stores nothing into it. -/
theorem idleAt0_14_B : ∀ t : Fin cfg0.N, ¬cond0_0 (grid0.coords t) → ¬cond0_1 (grid0.coords t) → cfg0.idle 14 (grid0.coords t) = true := by decide +kernel
/-- At the points of case B the pipeline does not write output 14's block back. -/
theorem noFlush0_14_B : ∀ t : Fin cfg0.N, ¬cond0_0 (grid0.coords t) → ¬cond0_1 (grid0.coords t) → (cfg0.win 14).flush t = false := by decide +kernel
/-- At the points of case C the printed configuration (`Cfg.idle`) calls output 14 live: the case stores into it. -/
theorem liveAt0_14_C : ∀ t : Fin cfg0.N, ¬cond0_0 (grid0.coords t) → cond0_1 (grid0.coords t) → cfg0.idle 14 (grid0.coords t) = false := by decide +kernel

/-! ## The kernel body on any staging memrefs: a subtype the run finds -/

/-- One staging buffer of output window 8, through which its contents are stated (`View.read_writes_of_cover`: the
    choice does not matter). -/
abbrev VO0_8 : View sig .tc .vmem S1536x2304 .bf16 := (Memref.whole cc0_stg8_0 : Memref sig .tc .vmem S1536x2304 .bf16).view
/-- One staging buffer of output window 9, through which its contents are stated (`View.read_writes_of_cover`: the
    choice does not matter). -/
abbrev VO0_9 : View sig .tc .vmem S16x2304 .bf16 := (Memref.whole cc0_stg9_0 : Memref sig .tc .vmem S16x2304 .bf16).view
/-- One staging buffer of output window 10, through which its contents are stated (`View.read_writes_of_cover`: the
    choice does not matter). -/
abbrev VO0_10 : View sig .tc .vmem S512x16 .bf16 := (Memref.whole cc0_stg10_0 : Memref sig .tc .vmem S512x16 .bf16).view
/-- One staging buffer of output window 11, through which its contents are stated (`View.read_writes_of_cover`: the
    choice does not matter). -/
abbrev VO0_11 : View sig .tc .vmem S1x512 .f32 := (Memref.whole cc0_stg11_0 : Memref sig .tc .vmem S1x512 .f32).view
/-- One staging buffer of output window 12, through which its contents are stated (`View.read_writes_of_cover`: the
    choice does not matter). -/
abbrev VO0_12 : View sig .tc .vmem S1536x512 .bf16 := (Memref.whole cc0_stg12_0 : Memref sig .tc .vmem S1536x512 .bf16).view
/-- One staging buffer of output window 13, through which its contents are stated (`View.read_writes_of_cover`: the
    choice does not matter). -/
abbrev VO0_13 : View sig .tc .vmem S1536x16 .bf16 := (Memref.whole cc0_stg13_0 : Memref sig .tc .vmem S1536x16 .bf16).view
/-- One staging buffer of output window 14, through which its contents are stated (`View.read_writes_of_cover`: the
    choice does not matter). -/
abbrev VO0_14 : View sig .tc .vmem S1536x16 .bf16 := (Memref.whole cc0_stg14_0 : Memref sig .tc .vmem S1536x16 .bf16).view
/-- Each window's current staging memref at point `t`, spelled as the pipeline passes it (`bodyAt0`), and its wholeness. -/
abbrev ms0_0 (t : Fin cfg0.N) : Memref sig .tc .vmem S1536x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2304 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x2304 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x16 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x512 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x2304 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x2304 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x16 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1536x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x16 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1536x16 .bf16 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S1536x2304 .f32 := Memref.whole cc0_scratch0
abbrev scM0_1 : Memref sig .tc .vmem S16x1536 .f32 := Memref.whole cc0_scratch1
abbrev scM0_2 : Memref sig .tc .vmem S16x1536 .bf16 := Memref.whole cc0_scratch2
abbrev scM0_3 : Memref sig .tc .vmem S1536x128 .f32 := Memref.whole cc0_scratch3
abbrev scM0_4 : Memref sig .tc .vmem S512x2304 .bf16 := Memref.whole cc0_scratch4
abbrev scM0_5 : Memref sig .tc .vmem S1536x512 .bf16 := Memref.whole cc0_scratch5
/-- The scratch `arg16` the kernel carries between points, as a view: what it holds is stated through it. -/
abbrev VS0_0 : View sig .tc .vmem S1536x2304 .f32 := scM0_0.view
/-- The scratch `arg17` the kernel carries between points, as a view: what it holds is stated through it. -/
abbrev VS0_1 : View sig .tc .vmem S16x1536 .f32 := scM0_1.view
/-- The scratch `arg18` the kernel carries between points, as a view: what it holds is stated through it. -/
abbrev VS0_2 : View sig .tc .vmem S16x1536 .bf16 := scM0_2.view
/-- The scratch `arg19` the kernel carries between points, as a view: what it holds is stated through it. -/
abbrev VS0_3 : View sig .tc .vmem S1536x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Kern

end
-- ==== Proof.Kern.Data.lean ====
/- What every buffer of the kernel holds at every grid point, over the extended reals: the running sums, the carried
   buffers and the output blocks, as functions of the input blocks. -/
module

public import proofs.«01_k».proof.Proof.Kern.Block
public import proofs.«01_k».proof.Proof.Kern.Points

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first grid point. -/
def t0 : Fin cfg0.N := ⟨0, by rw [show cfg0.N = 18 from N_0]; decide⟩

/-- The weight rows of point `t`: the decoded base weight plus `b · a`. -/
def vT (c : Dev nD) (t : Fin cfg0.N) : Vec Ideal S512x2304 .bf16 := vB (iblk m c 1 t) (iblk m c 2 t) (iblk m c 3 t) (iblk m c 4 t)

/-- The norms of those rows. -/
def nT (c : Dev nD) (t : Fin cfg0.N) : Vec Ideal S1x512 .f32 := nB (vT m c t)

/-- The scales of `dy` as the first point spreads them, kept for the points after it. -/
def dys0 (c : Dev nD) : Vec Ideal S1536x128 .f32 := dysB (iblk m c 7 t0)

/-- The gradient that reaches the rows of point `t`: `dy` times magnitude over norm. -/
def gT (c : Dev nD) (t : Fin cfg0.N) : Vec Ideal S1536x512 .bf16 := gB (iblk m c 6 t) (dys0 m c) (cB (iblk m c 5 t) (nT m c t))

/-- `a · xᵀ` as the first point computes it, kept for the points after it. -/
def xat0 (c : Dev nD) : Vec Ideal S16x1536 .bf16 := xatB (iblk m c 0 t0) (iblk m c 3 t0)

/-- `x · aᵀ`, which the first point stores. -/
def xa0 (c : Dev nD) : Vec Ideal S1536x16 .bf16 := xaB (iblk m c 0 t0) (iblk m c 3 t0)

/-- The running sum of `g · v` before point `n`: nothing before the first. -/
def accT (c : Dev nD) : ℕ → Vec Ideal S1536x2304 .f32
  | 0 => fun _ => (0 : EReal)
  | n + 1 => if h : n < cfg0.N then accB (vT m c ⟨n, h⟩) (gT m c ⟨n, h⟩) (accT c n) else accT c n

/-- The running sum of `bᵀ · gᵀ` before point `n`. -/
def gbtT (c : Dev nD) : ℕ → Vec Ideal S16x1536 .f32
  | 0 => fun _ => (0 : EReal)
  | n + 1 => if h : n < cfg0.N then gbtB (iblk m c 4 ⟨n, h⟩) (gT m c ⟨n, h⟩) (gbtT c n) else gbtT c n

theorem accT_succ (c : Dev nD) (t : Fin cfg0.N) : accT m c (t.val + 1) = accB (vT m c t) (gT m c t) (accT m c t.val) := by
  conv_lhs => unfold accT
  rw [dif_pos t.isLt]

theorem gbtT_succ (c : Dev nD) (t : Fin cfg0.N) : gbtT m c (t.val + 1) = gbtB (iblk m c 4 t) (gT m c t) (gbtT m c t.val) := by
  conv_lhs => unfold gbtT
  rw [dif_pos t.isLt]

/-- What the scratch buffers hold before position `n`: before the first point anything; afterwards the running sums, the
    kept product and scales, and two buffers whose contents the next point does not read. -/
def PhiS (c : Dev nD) : (n : ℕ) → n ≤ cfg0.N → sProp 𝕄
  | 0, _ => Pipeline.ΦA spec0 c
  | n + 1, _ => iprop(iprop(owns (c : Thread nD τ) scM0_0 fullShare (accT m c (n + 1)) ∗ owns (c : Thread nD τ) scM0_1 fullShare (gbtT m c (n + 1))
      ∗ owns (c : Thread nD τ) scM0_2 fullShare (xat0 m c) ∗ owns (c : Thread nD τ) scM0_3 fullShare (dys0 m c)
      ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accT m c (n + 1)) ∗ owns (c : Thread nD τ) scM0_1 fullShare (gbtT m c (n + 1))
      ∗ owns (c : Thread nD τ) scM0_2 fullShare (xat0 m c) ∗ owns (c : Thread nD τ) scM0_3 fullShare (dys0 m c)
      ∗ (∃ d, owns (c : Thread nD τ) scM0_4 fullShare d) ∗ (∃ d, owns (c : Thread nD τ) scM0_5 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (accT m c (n)) ∗ owns (c : Thread nD τ) scM0_1 fullShare (gbtT m c (n))
      ∗ owns (c : Thread nD τ) scM0_2 fullShare (xat0 m c) ∗ owns (c : Thread nD τ) scM0_3 fullShare (dys0 m c)
      ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-- The contents of every window's buffer after the body at every point. An output that is stored at the last point only
    has that point's contents at every point, one stored at the first point only has the first's. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dxB (accT m c 18)
    | ⟨9, _⟩ => daB (gbtT m c 18) (iblk m c 0 t)
    | ⟨10, _⟩ => dbB (xat0 m c) (gT m c t)
    | ⟨11, _⟩ => dmB (iblk m c 6 t) (dys0 m c) (zB (iblk m c 0 t) (vT m c t)) (nT m c t)
    | ⟨12, _⟩ => zB (iblk m c 0 t) (vT m c t)
    | ⟨13, _⟩ => xa0 m c
    | ⟨14, _⟩ => gbB (gbtT m c 18)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dxB (accT m c 18) := by dsimp only [dats]
theorem after0_9 (c : Dev nD) (t : Fin cfg0.N) : (dats m 0 c).after 9 t = daB (gbtT m c 18) (iblk m c 0 t) := by dsimp only [dats]
theorem after0_10 (c : Dev nD) (t : Fin cfg0.N) : (dats m 0 c).after 10 t = dbB (xat0 m c) (gT m c t) := by dsimp only [dats]
theorem after0_11 (c : Dev nD) (t : Fin cfg0.N) : (dats m 0 c).after 11 t = dmB (iblk m c 6 t) (dys0 m c) (zB (iblk m c 0 t) (vT m c t)) (nT m c t) := by dsimp only [dats]
theorem after0_12 (c : Dev nD) (t : Fin cfg0.N) : (dats m 0 c).after 12 t = zB (iblk m c 0 t) (vT m c t) := by dsimp only [dats]
theorem after0_13 (c : Dev nD) (t : Fin cfg0.N) : (dats m 0 c).after 13 t = xa0 m c := by dsimp only [dats]
theorem after0_14 (c : Dev nD) (t : Fin cfg0.N) : (dats m 0 c).after 14 t = gbB (gbtT m c 18) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_6 (c : Dev nD) (t : Fin cfg0.N) :
    (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after0_6]
theorem leaves0_7 (c : Dev nD) (t : Fin cfg0.N) :
    (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [liveAt0_7 t], after0_7]
theorem leaves0_10 (c : Dev nD) (t : Fin cfg0.N) :
    (dats m 0 c).leavesExact 10 t = owns (c : Thread nD τ) (ms0_10 t) fullShare (dbB (xat0 m c) (gT m c t)) := by
  rw [show (dats m 0 c).leavesExact 10 t = owns (c : Thread nD τ) (ms0_10 t) fullShare ((dats m 0 c).after 10 t) from by
    unfold Dat.leavesExact; rw [liveAt0_10 t], after0_10]
theorem leaves0_11 (c : Dev nD) (t : Fin cfg0.N) :
    (dats m 0 c).leavesExact 11 t = owns (c : Thread nD τ) (ms0_11 t) fullShare (dmB (iblk m c 6 t) (dys0 m c) (zB (iblk m c 0 t) (vT m c t)) (nT m c t)) := by
  rw [show (dats m 0 c).leavesExact 11 t = owns (c : Thread nD τ) (ms0_11 t) fullShare ((dats m 0 c).after 11 t) from by
    unfold Dat.leavesExact; rw [liveAt0_11 t], after0_11]
theorem leaves0_12 (c : Dev nD) (t : Fin cfg0.N) :
    (dats m 0 c).leavesExact 12 t = owns (c : Thread nD τ) (ms0_12 t) fullShare (zB (iblk m c 0 t) (vT m c t)) := by
  rw [show (dats m 0 c).leavesExact 12 t = owns (c : Thread nD τ) (ms0_12 t) fullShare ((dats m 0 c).after 12 t) from by
    unfold Dat.leavesExact; rw [liveAt0_12 t], after0_12]

theorem fetch13 : ∀ t : Fin cfg0.N, (cfg0.win 13).fetch t = false := by decide +kernel
theorem flush13 : ∀ t : Fin cfg0.N, (cfg0.win 13).flush t = decide (t.val = 17) := by decide +kernel
theorem idle13 : ∀ t : Fin cfg0.N, cfg0.idle 13 (grid0.coords t) = decide (t.val ≠ 0) := by decide +kernel
theorem left13_live (c : Dev nD) (t : Fin cfg0.N) (h : t.val = 0) (d) : (dats m 0 c).left 13 t d = (dats m 0 c).after 13 t := by
  have hi : cfg0.idle 13 (cfg0.grid.coords t) = false := (idle13 t).trans (by simp [h])
  unfold Dat.left; rw [hi]; rfl
theorem left13_idle (c : Dev nD) (t : Fin cfg0.N) (h : t.val ≠ 0) (d) : (dats m 0 c).left 13 t d = (dats m 0 c).before 13 t d := by
  have hi : cfg0.idle 13 (cfg0.grid.coords t) = true := (idle13 t).trans (by simp [h])
  unfold Dat.left; rw [hi]

/-- From the second point on the buffer of `x · aᵀ` holds what the first point stored. -/
theorem before0_13 (c : Dev nD) : ∀ (n : ℕ) (hn : n + 1 < cfg0.N) (d), (dats m 0 c).before 13 ⟨n + 1, hn⟩ d = xa0 m c
  | 0, hn, d => by
    rw [Dat.before_of_pos (dats m 0 c) 13 ⟨1, hn⟩ (by simp) (fetch13 _), flush13, if_neg (by simp), left13_live m c _ rfl, after0_13]
  | n + 1, hn, d => by
    have hn' : n + 2 < 18 := lt_of_lt_of_eq hn (show cfg0.N = 18 from N_0)
    rw [Dat.before_of_pos (dats m 0 c) 13 ⟨n + 2, hn⟩ (by simp) (fetch13 _), flush13, if_neg (by simp; omega), left13_idle m c _ (by simp)]
    exact before0_13 c n (Nat.lt_of_succ_lt hn) d

/-- The same, at a point that is not the first. -/
theorem before0_13_pos (c : Dev nD) (t : Fin cfg0.N) (ht : t.val ≠ 0) (d) : (dats m 0 c).before 13 t d = xa0 m c := by
  obtain ⟨n, hn⟩ := t
  cases n with
  | zero => exact absurd rfl ht
  | succ n => exact before0_13 m c n hn d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

end Cert.KernelIdeal.Kern

end
-- ==== Proof.Kern.Blocks.lean ====
/- The kernel's blocks and running sums as pieces of the tables of `Kern/Spec.lean`. -/
module

public import proofs.«01_k».proof.Proof.Kern.Spec
public import proofs.«01_k».proof.Proof.Kern.Data
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (c : Dev nD)

/-- The tables of the kernel's arguments. -/
def kd : Dora.Data := Dora.ofArgs (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

/-- Output channel `o` of the block of point `t`. -/
abbrev chan (t : Fin cfg0.N) (o : Fin 512) : Fin 9216 :=
  ⟨t.val * 512 + o.val, by have := lt_of_lt_of_eq t.isLt (show cfg0.N = 18 from N_0); have := o.isLt; omega⟩

theorem idx0 : ∀ t : Fin cfg0.N, win0_0.index t = ![0, 0] := by decide +kernel
theorem idx1 : ∀ t : Fin cfg0.N, win0_1.index t = ![t.val, 0] := by decide +kernel
theorem idx2 : ∀ t : Fin cfg0.N, win0_2.index t = ![0, t.val] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![0, t.val] := by decide +kernel
theorem idx6 : ∀ t : Fin cfg0.N, win0_6.index t = ![0, t.val] := by decide +kernel
theorem idx7 : ∀ t : Fin cfg0.N, win0_7.index t = ![0, 0] := by decide +kernel

theorem iblk0_apply (t : Fin cfg0.N) (a : Fin 1536) (i : Fin 2304) : iblk m c 0 t (ix2 a i) = (kd m c).x a i := by
  unfold kd Dora.ofArgs
  dsimp only
  blk_simp [iblk]
  entry_read
  pointwise
  blk_ext [idx0 t]

theorem iblk1_apply (t : Fin cfg0.N) (o : Fin 512) (i : Fin 2304) : iblk m c 1 t (ix2 o i) = (kd m c).w (chan t o) i := by
  unfold kd Dora.ofArgs
  dsimp only
  blk_ext [iblk, V, idx1 t]

theorem iblk2_apply (t : Fin cfg0.N) (o : Fin 512) : iblk m c 2 t (ix2 0 o) = (kd m c).ws (chan t o) := by
  unfold kd Dora.ofArgs
  dsimp only
  blk_simp [iblk]
  entry_read
  pointwise
  blk_ext [idx2 t]

theorem iblk3_apply (t : Fin cfg0.N) (r : Fin 16) (i : Fin 2304) : iblk m c 3 t (ix2 r i) = (kd m c).a r i := by
  unfold kd Dora.ofArgs
  dsimp only
  blk_ext [iblk, V, idx3 t]

theorem iblk4_apply (t : Fin cfg0.N) (o : Fin 512) (r : Fin 16) : iblk m c 4 t (ix2 o r) = (kd m c).b (chan t o) r := by
  unfold kd Dora.ofArgs
  dsimp only
  blk_ext [iblk, V, idx4 t]

theorem iblk5_apply (t : Fin cfg0.N) (o : Fin 512) : iblk m c 5 t (ix2 0 o) = (kd m c).mag (chan t o) := by
  unfold kd Dora.ofArgs
  dsimp only
  blk_simp [iblk]
  entry_read
  pointwise
  blk_ext [idx5 t]

theorem iblk6_apply (t : Fin cfg0.N) (a : Fin 1536) (o : Fin 512) : iblk m c 6 t (ix2 a o) = (kd m c).dy a (chan t o) := by
  unfold kd Dora.ofArgs
  dsimp only
  blk_simp [iblk]
  entry_read
  pointwise
  blk_ext [idx6 t]

theorem iblk7_apply (t : Fin cfg0.N) (a : Fin 12) (l : Fin 128) : iblk m c 7 t (ix2 a l) = m ((c : Thread nD τ).loc main_arg7) (ix2 a l) := by
  blk_ext [iblk, V, idx7 t]

/-! ## The blocks -/

theorem mul_swap {p q a b : EReal} (h : p = a) (h' : q = b) : p * q = b * a := by rw [h, h', mul_comm]

theorem vT_apply (t : Fin cfg0.N) (o : Fin 512) (i : Fin 2304) : vT m c t (ix2 o i) = (kd m c).v (chan t o) i := by
  unfold vT vB Dora.Data.v
  refine congrArg₂ (· + ·) (congrArg₂ (· * ·) (iblk1_apply m c t o i) (iblk2_apply m c t o)) ?_
  exact Finset.sum_congr rfl fun r _ => congrArg₂ (· * ·) (iblk4_apply m c t o r) (iblk3_apply m c t r i)

theorem nT_apply (t : Fin cfg0.N) (o : Fin 512) : nT m c t (ix2 0 o) = (kd m c).n (chan t o) := by
  unfold nT nB Dora.Data.n
  exact congrArg Ideal.sqrt (Finset.sum_congr rfl fun i _ => congrArg₂ (· * ·) (vT_apply m c t o i) (vT_apply m c t o i))

theorem cT_apply (t : Fin cfg0.N) (o : Fin 512) : cB (iblk m c 5 t) (nT m c t) (ix2 0 o) = (kd m c).c (chan t o) := by
  unfold cB Dora.Data.c
  exact congrArg₂ Ideal.div (iblk5_apply m c t o) (nT_apply m c t o)

theorem dys0_apply (a : Fin 1536) (l : Fin 128) : dys0 m c (ix2 a l) = (kd m c).dys a := by
  unfold dys0 dysB kd Dora.ofArgs
  exact iblk7_apply m c t0 _ _

theorem dyd_apply (t : Fin cfg0.N) (a : Fin 1536) (o : Fin 512) : dyB (iblk m c 6 t) (dys0 m c) (ix2 a o) = (kd m c).dyd a (chan t o) := by
  unfold dyB Dora.Data.dyd
  exact congrArg₂ (· * ·) (iblk6_apply m c t a o) (dys0_apply m c a _)

theorem gT_apply (t : Fin cfg0.N) (a : Fin 1536) (o : Fin 512) : gT m c t (ix2 a o) = (kd m c).g a (chan t o) := by
  unfold gT gB Dora.Data.g
  exact congrArg₂ (· * ·) (dyd_apply m c t a o) (cT_apply m c t o)

theorem zT_apply (t : Fin cfg0.N) (a : Fin 1536) (o : Fin 512) : zB (iblk m c 0 t) (vT m c t) (ix2 a o) = (kd m c).z a (chan t o) := by
  unfold zB Dora.Data.z
  exact Finset.sum_congr rfl fun i _ => congrArg₂ (· * ·) (iblk0_apply m c t a i) (vT_apply m c t o i)

theorem dmT_apply (t : Fin cfg0.N) (o : Fin 512) :
    dmB (iblk m c 6 t) (dys0 m c) (zB (iblk m c 0 t) (vT m c t)) (nT m c t) (ix2 0 o) = (kd m c).dm (chan t o) := by
  unfold dmB Dora.Data.dm
  exact congrArg₂ Ideal.div (Finset.sum_congr rfl fun a _ => congrArg₂ (· * ·) (dyd_apply m c t a o) (zT_apply m c t a o)) (nT_apply m c t o)

theorem xat0_apply (r : Fin 16) (a : Fin 1536) : xat0 m c (ix2 r a) = (kd m c).xa a r := by
  unfold xat0 xatB Dora.Data.xa
  exact Finset.sum_congr rfl fun i _ => mul_swap (iblk3_apply m c t0 r i) (iblk0_apply m c t0 a i)

theorem dbT_apply (t : Fin cfg0.N) (o : Fin 512) (r : Fin 16) : dbB (xat0 m c) (gT m c t) (ix2 o r) = (kd m c).db (chan t o) r := by
  unfold dbB Dora.Data.db
  exact Finset.sum_congr rfl fun a _ => mul_swap (xat0_apply m c r a) (gT_apply m c t a o)

/-! ## The running sums after the last point -/

/-- A sum over the 18 points of sums over their 512 channels is the sum over all channels. -/
theorem sum_chan (f : Fin 9216 → EReal) : ∑ t : Fin 18, ∑ o : Fin 512, f (chan ⟨t.val, lt_of_lt_of_eq t.isLt N_0.symm⟩ o) = ∑ o : Fin 9216, f o :=
  Fin.sum_mul_add_congr (fun s k hl => rfl)

/-- A running sum that adds `f t` at point `t` holds the sum over the points before. -/
theorem sum_before (f : Fin 18 → EReal) (s : ℕ → EReal) (h0 : s 0 = 0) (hs : ∀ (n : ℕ) (h : n < 18), s (n + 1) = s n + f ⟨n, h⟩) :
    s 18 = ∑ t : Fin 18, f t := by
  have key : ∀ n (hn : n ≤ 18), s n = ∑ t : Fin n, f ⟨t.val, lt_of_lt_of_le t.isLt hn⟩ := by
    intro n
    induction n with
    | zero => intro _; rw [h0]; rfl
    | succ n ih => intro hn; rw [hs n (by omega), ih (by omega), Fin.sum_univ_castSucc]; rfl
  exact key 18 le_rfl

theorem accT_apply (a : Fin 1536) (i : Fin 2304) : accT m c 18 (ix2 a i) = (kd m c).dx a i := by
  have hN : cfg0.N = 18 := N_0
  refine (sum_before (fun t => ∑ o : Fin 512, (kd m c).g a (chan ⟨t.val, lt_of_lt_of_eq t.isLt N_0.symm⟩ o) * (kd m c).v (chan ⟨t.val, lt_of_lt_of_eq t.isLt N_0.symm⟩ o) i)
    (fun n => accT m c n (ix2 a i)) (by unfold accT; rfl) fun n h => ?_).trans (sum_chan fun o => (kd m c).g a o * (kd m c).v o i)
  have hn : n < cfg0.N := lt_of_lt_of_eq h N_0.symm
  have := congrFun (accT_succ m c ⟨n, hn⟩) (ix2 a i)
  refine this.trans ?_
  unfold accB
  exact congrArg₂ (· + ·) rfl (Finset.sum_congr rfl fun o _ => congrArg₂ (· * ·) (gT_apply m c _ a o) (vT_apply m c _ o i))

theorem gbtT_apply (r : Fin 16) (a : Fin 1536) : gbtT m c 18 (ix2 r a) = (kd m c).gb a r := by
  refine (sum_before (fun t => ∑ o : Fin 512, (kd m c).g a (chan ⟨t.val, lt_of_lt_of_eq t.isLt N_0.symm⟩ o) * (kd m c).b (chan ⟨t.val, lt_of_lt_of_eq t.isLt N_0.symm⟩ o) r)
    (fun n => gbtT m c n (ix2 r a)) (by unfold gbtT; rfl) fun n h => ?_).trans (sum_chan fun o => (kd m c).g a o * (kd m c).b o r)
  have hn : n < cfg0.N := lt_of_lt_of_eq h N_0.symm
  have := congrFun (gbtT_succ m c ⟨n, hn⟩) (ix2 r a)
  refine this.trans ?_
  unfold gbtB
  exact congrArg₂ (· + ·) rfl (Finset.sum_congr rfl fun o _ => mul_swap (iblk4_apply m c _ o r) (gT_apply m c _ a o))

theorem xa0_apply (a : Fin 1536) (r : Fin 16) : xa0 m c (ix2 a r) = (kd m c).xa a r := xat0_apply m c r a

/-- The gradient of `a`, taken from the last running sum. -/
theorem daT_apply (t : Fin cfg0.N) (r : Fin 16) (i : Fin 2304) : daB (gbtT m c 18) (iblk m c 0 t) (ix2 r i) = (kd m c).da r i := by
  unfold daB Dora.Data.da
  exact Finset.sum_congr rfl fun a _ => congrArg₂ (fun p q : EReal => p * q) (gbtT_apply m c r a) (iblk0_apply m c t a i)

end Cert.KernelIdeal.Kern

end
-- ==== Proof.Kern.RunA.lean ====
/- The kernel's body run at the first point. -/
module

public import proofs.«01_k».proof.Proof.Kern.Points

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run at the first point: on whole buffers, the inputs' at their contents, it runs to the end; the inputs are as they were, an
    output it doesn't store into is handed back untouched, and every buffer it stores into holds the listed stores (the
    last first). The lists are found by the run. -/
noncomputable def kernelRun0_A (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) :
    Σ' (L8 : List (View.Piece (Elt F) S1536x2304 .bf16)), Σ' (L9 : List (View.Piece (Elt F) S16x2304 .bf16)), Σ' (L10 : List (View.Piece (Elt F) S512x16 .bf16)), Σ' (L11 : List (View.Piece (Elt F) S1x512 .f32)), Σ' (L12 : List (View.Piece (Elt F) S1536x512 .bf16)), Σ' (L13 : List (View.Piece (Elt F) S1536x16 .bf16)), Σ' (L14 : List (View.Piece (Elt F) S1536x16 .bf16)), Σ' (LS0 : List (View.Piece (Elt F) S1536x2304 .f32)), Σ' (LS1 : List (View.Piece (Elt F) S16x1536 .f32)), Σ' (LS2 : List (View.Piece (Elt F) S16x1536 .bf16)), Σ' (LS3 : List (View.Piece (Elt F) S1536x128 .f32)), Σ' (LT4 : List (View.Piece (Elt F) S512x2304 .bf16)), { LT5 : List (View.Piece (Elt F) S1536x512 .bf16) //
      ∀ (xi8 : Vec F S1536x2304 .bf16) (xi9 : Vec F S16x2304 .bf16) (xi14 : Vec F S1536x16 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xi14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LT4) ∗ (∃ f, arg21.view.loc (c : Thread nD τ) ↦[arg21.view.set]{fullShare} arg21.view.writes (Elt F) f LT5)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], ?_, ?_, ?_, ?_, [], ?_, ?_, ?_, ?_, ?_, ?_, fun xi8 xi9 xi14 E K => ?run⟩
  case run =>
    simp only [cc0_dora_bwd_eq_skeleton]; unfold cc0_dora_bwd_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]
    · iexists _; isplitr; · ipureintro; exact harg15.read_unread _
      iexact H14
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Kern

end
-- ==== Proof.Kern.ValueA.lean ====
/- What the body leaves in each buffer it stores into at the first point, as the block functions of `Kern/Block.lean`. -/
module

public import proofs.«01_k».proof.Proof.Kern.Block
public import proofs.«01_k».proof.Proof.Kern.RunA

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL.Sem

section ValuesA
variable (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : cond0_0 i) (hc1 : ¬cond0_1 i)
  (x0 : Vec Ideal S1536x2304 .bf16) (x1 : Vec Ideal S512x2304 .fp8e4m3) (x2 : Vec Ideal S1x512 .f32) (x3 : Vec Ideal S16x2304 .bf16) (x4 : Vec Ideal S512x16 .bf16) (x5 : Vec Ideal S1x512 .f32) (x6 : Vec Ideal S1536x512 .fp8e5m2) (x7 : Vec Ideal S12x128 .f32)

/-- A load of row `j` of the scales of `dy`. -/
theorem ld_dys (j : ℕ) (h : ∀ a, (![j, 0] : Fin 2 → ℕ) a + S1x128.size a ≤ S12x128.size a) (a : Fin 1) (l : Fin 128) :
    View.ld x7 (Rect.unit ![j, 0] S1x128.size h) (ix2 a l)
      = x7 (ix2 ⟨j, by have h0 : j + 1 ≤ 12 := h 0; omega⟩ l) :=
  View.ld_unit_apply_of _ _ _ _ _ _ fun b => by fin_cases b <;> simp [ix2]

/-- The scales of `dy` as they are stored, 128 tokens at a time, read back whole. -/
theorem canon_dys : View.canon (kernelRun0_A.sl.HS3_12 c arg8 harg8 x7) = dysB x7 := by
  sl_unfold_words
  simp only [View.readAt_eq_ld, harg8.read_unread]
  funext y
  canon_tiles l h
  all_goals
    obtain ⟨⟨o, ho⟩, j, rfl⟩ : ∃ (o : Fin 128) (j : Fin 128), l = ix2 o j := ⟨l 0, l 1, eq_ix2 l⟩
    obtain ⟨⟨i, hi⟩, j', rfl⟩ : ∃ (i : Fin 1536) (j' : Fin 128), y = ix2 i j' := ⟨y 0, y 1, eq_ix2 y⟩
    obtain rfl : j' = j := Fin.ext h1
    obtain rfl : i = _ := h0
    pointwise [dysB, k0_pay12, k0_pay13, k0_pay26]
    exact congrArg x7 (congr (congrArg ix2 (Fin.ext (by first | (dsimp only [ix2]; omega) | (simp [ix2]; omega) | (simp [ix2]; done)))) (Fin.ext (by dsimp only [ix2]; omega)))

/-- What later loads of the scales read. -/
theorem read_dys : kernelRun0_A.sl.v254 c arg8 harg8 arg19 x7 = dysB x7 := by
  unfold kernelRun0_A.sl.v254
  rw [readCov_whole (S := S1536x128) _ _ hz, canon_dys]

/-- It leaves the block of the gradient of `lora_b`. -/
theorem left_A_L10 {sp : Space} (w : View sig .tc sp S512x16 .bf16) (f : w.ty.Contents (Elt Ideal)) :
    w.read (Elt Ideal) (w.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.1) = dbB (xatB x0 x3) (gB x6 (dysB x7) (cB x5 (nB (vB x1 x2 x3 x4)))) := by
  rw [View.read_writes_eq_canon _ _ _ (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.1 S512x16.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_A; dsimp only
  simp only [kernelRun0_A.sl.HS0_1, kernelRun0_A.sl.HS1_1, kernelRun0_A.sl.HS2_1, kernelRun0_A.sl.HS4_18, kernelRun0_A.sl.HS5_4, kernelRun0_A.sl.v245, kernelRun0_A.sl.v318, kernelRun0_A.sl.v319, kernelRun0_A.sl.v325, kernelRun0_A.sl.v333, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, read_dys]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the block of the gradient of the magnitudes. -/
theorem left_A_L11 {sp : Space} (w : View sig .tc sp S1x512 .f32) (f : w.ty.Contents (Elt Ideal)) :
    w.read (Elt Ideal) (w.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.1) = dmB x6 (dysB x7) (zB x0 (vB x1 x2 x3 x4)) (nB (vB x1 x2 x3 x4)) := by
  rw [View.read_writes_eq_canon _ _ _ (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.1 S1x512.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_A; dsimp only
  simp only [kernelRun0_A.sl.HS0_1, kernelRun0_A.sl.HS1_1, kernelRun0_A.sl.HS2_1, kernelRun0_A.sl.HS4_18, kernelRun0_A.sl.HS5_4, kernelRun0_A.sl.v245, kernelRun0_A.sl.v318, kernelRun0_A.sl.v319, kernelRun0_A.sl.v325, kernelRun0_A.sl.v333, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, read_dys]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the block of `z`. -/
theorem left_A_L12 {sp : Space} (w : View sig .tc sp S1536x512 .bf16) (f : w.ty.Contents (Elt Ideal)) :
    w.read (Elt Ideal) (w.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.1) = zB x0 (vB x1 x2 x3 x4) := by
  rw [View.read_writes_eq_canon _ _ _ (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.1 S1536x512.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_A; dsimp only
  simp only [kernelRun0_A.sl.HS0_1, kernelRun0_A.sl.HS1_1, kernelRun0_A.sl.HS2_1, kernelRun0_A.sl.HS4_18, kernelRun0_A.sl.HS5_4, kernelRun0_A.sl.v245, kernelRun0_A.sl.v318, kernelRun0_A.sl.v319, kernelRun0_A.sl.v325, kernelRun0_A.sl.v333, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, read_dys]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the `x · aᵀ`. -/
theorem left_A_L13 {sp : Space} (w : View sig .tc sp S1536x16 .bf16) (f : w.ty.Contents (Elt Ideal)) :
    w.read (Elt Ideal) (w.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.1) = xaB x0 x3 := by
  rw [View.read_writes_eq_canon _ _ _ (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.1 S1536x16.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_A; dsimp only
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the running sum of `g · v`. -/
theorem left_A_LS0 {sp : Space} (w : View sig .tc sp S1536x2304 .f32) (f : w.ty.Contents (Elt Ideal)) :
    w.read (Elt Ideal) (w.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.1) = accB (vB x1 x2 x3 x4) (gB x6 (dysB x7) (cB x5 (nB (vB x1 x2 x3 x4)))) (fun _ => (0 : EReal)) := by
  rw [View.read_writes_eq_canon _ _ _ (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.1 S1536x2304.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_A; dsimp only
  simp only [kernelRun0_A.sl.HS0_1, kernelRun0_A.sl.HS1_1, kernelRun0_A.sl.HS2_1, kernelRun0_A.sl.HS4_18, kernelRun0_A.sl.HS5_4, kernelRun0_A.sl.v245, kernelRun0_A.sl.v318, kernelRun0_A.sl.v319, kernelRun0_A.sl.v325, kernelRun0_A.sl.v333, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, read_dys]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the running sum of `bᵀ · gᵀ`. -/
theorem left_A_LS1 {sp : Space} (w : View sig .tc sp S16x1536 .f32) (f : w.ty.Contents (Elt Ideal)) :
    w.read (Elt Ideal) (w.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.1) = gbtB x4 (gB x6 (dysB x7) (cB x5 (nB (vB x1 x2 x3 x4)))) (fun _ => (0 : EReal)) := by
  rw [View.read_writes_eq_canon _ _ _ (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.1 S16x1536.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_A; dsimp only
  simp only [kernelRun0_A.sl.HS0_1, kernelRun0_A.sl.HS1_1, kernelRun0_A.sl.HS2_1, kernelRun0_A.sl.HS4_18, kernelRun0_A.sl.HS5_4, kernelRun0_A.sl.v245, kernelRun0_A.sl.v318, kernelRun0_A.sl.v319, kernelRun0_A.sl.v325, kernelRun0_A.sl.v333, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, read_dys]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the `a · xᵀ` kept for later points. -/
theorem left_A_LS2 {sp : Space} (w : View sig .tc sp S16x1536 .bf16) (f : w.ty.Contents (Elt Ideal)) :
    w.read (Elt Ideal) (w.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.2.1) = xatB x0 x3 := by
  rw [View.read_writes_eq_canon _ _ _ (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.2.1 S16x1536.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_A; dsimp only
  simp only [kernelRun0_A.sl.HS0_1, kernelRun0_A.sl.HS1_1, kernelRun0_A.sl.HS2_1, kernelRun0_A.sl.HS4_18, kernelRun0_A.sl.HS5_4, kernelRun0_A.sl.v245, kernelRun0_A.sl.v318, kernelRun0_A.sl.v319, kernelRun0_A.sl.v325, kernelRun0_A.sl.v333, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, read_dys]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the scales of `dy` kept for later points. -/
theorem left_A_LS3 {sp : Space} (w : View sig .tc sp S1536x128 .f32) (f : w.ty.Contents (Elt Ideal)) :
    w.read (Elt Ideal) (w.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.2.2.1) = dysB x7 := by
  rw [View.read_writes_eq_canon _ _ _ (View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.2.2.1 S128x128.size (by sl_kernel_rfl))]
  exact canon_dys c arg8 harg8 x7

end ValuesA

end Cert.KernelIdeal.Kern

end
-- ==== Proof.Kern.BodyA.lean ====
/- The body at the first grid point: from the buffers as that point finds them to the contents `Kern/Data.lean` states. -/
module

public import proofs.«01_k».proof.Proof.Kern.Data
public import proofs.«01_k».proof.Proof.Kern.ValueA

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem first_mod : t0.val % 18 = 0 := rfl
theorem accT_t0 (c : Dev nD) : accT m c t0.val = fun _ => (0 : EReal) := by rw [show t0.val = 0 from rfl]; unfold accT; rfl
theorem gbtT_t0 (c : Dev nD) : gbtT m c t0.val = fun _ => (0 : EReal) := by rw [show t0.val = 0 from rfl]; unfold gbtT; rfl

set_option maxHeartbeats 4000000 in
/-- The body at the first grid point. -/
theorem sound_A (c : Dev nD) :
    bodyPre m c t0 ⊢ wp frame (wpE (defs₀ (F := Ideal)) Variants.none c none) Set.univ (bodyAt0 t0) (fun _ => bodyPost m c t0) := by
  have hcA : cond0_0 (grid0.coords t0) := (hcond0_0 t0).mpr first_mod
  have hcA' : ¬cond0_1 (grid0.coords t0) := fun h => absurd ((hcond0_1 t0).mp h) (by rw [first_mod]; decide)
  unfold bodyPre bodyPost bodyAt0
  simp only [before0_0, before0_1, before0_2, before0_3, before0_4, before0_5, before0_6, before0_7]
  rw [show (dats m 0 c).owesAt () (t0).succ = (dats m 0 c).owesAt () (t0).castSucc from rfl]
  rw [show (dats m 0 c).Φ (t0).succ = PhiS m c ((t0).val + 1) (t0).isLt from rfl, PhiS_succ]
  rw [leaves0_0, leaves0_1, leaves0_2, leaves0_3, leaves0_4, leaves0_5, leaves0_6, leaves0_7, leaves0_10, leaves0_11, leaves0_12]
  rw [Dat.leavesExact_idle (dats m 0 c) 8 t0 (idleAt0_8_A t0 hcA hcA') (noFlush0_8_A t0 hcA hcA')]
  rw [Dat.leavesExact_idle (dats m 0 c) 9 t0 (idleAt0_9_A t0 hcA hcA') (noFlush0_9_A t0 hcA hcA')]
  rw [Dat.leavesExact_idle (dats m 0 c) 14 t0 (idleAt0_14_A t0 hcA hcA') (noFlush0_14_A t0 hcA hcA')]
  rw [show (dats m 0 c).leavesExact 13 t0 = owns (c : Thread nD τ) (ms0_13 t0) fullShare ((dats m 0 c).after 13 t0) from by
    unfold Dat.leavesExact; rw [liveAt0_13_A t0 hcA hcA'], after0_13]
  rw [PhiS_castSucc m c t0, PhiS_zero m c t0.val _ rfl, PhiA0_eq]
  rw [accT_succ, gbtT_succ, accT_t0, gbtT_t0]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c (grid0.coords t0) _ _ _ _ _ _ _ _ _ _ _ _ _ _ _ _ _ _ _ _ _ _ _ _ _ _ _ _ _ _ _ _ _ _ _ _ _ _ _ _ _ _ hcA hcA' (iblk m c 0 t0) (iblk m c 1 t0) (iblk m c 2 t0) (iblk m c 3 t0) (iblk m c 4 t0) (iblk m c 5 t0) (iblk m c 6 t0) (iblk m c 7 t0)).2.2.2.2.2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, ⟨%e10, H10⟩, ⟨%e11, H11⟩, ⟨%e12, H12⟩, ⟨%e13, H13⟩, H14, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    · isplitl [HS0]
      · unfold owns; iexists _; isplitr
        swap; · iexact HS0
        ipureintro; exact left_A_LS0 ..
      isplitl [HS1]
      · unfold owns; iexists _; isplitr
        swap; · iexact HS1
        ipureintro; exact left_A_LS1 ..
      isplitl [HS2]
      · unfold owns; iexists _; isplitr
        swap; · iexact HS2
        ipureintro; exact left_A_LS2 ..
      isplitl [HS3]
      · unfold owns; iexists _; isplitr
        swap; · iexact HS3
        ipureintro; exact left_A_LS3 ..
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · unfold owns; iexists _; isplitr
    swap; · iexact H10
    ipureintro; exact left_A_L10 ..
  isplitl [H11]
  · unfold owns; iexists _; isplitr
    swap; · iexact H11
    ipureintro; exact left_A_L11 ..
  isplitl [H12]
  · unfold owns; iexists _; isplitr
    swap; · iexact H12
    ipureintro; exact left_A_L12 ..
  isplitl [H13]
  · unfold owns; iexists _; isplitr
    swap; · iexact H13
    ipureintro; exact left_A_L13 ..
  iexists _; iexact H14

end Cert.KernelIdeal.Kern

end
-- ==== Proof.Kern.RunB.lean ====
/- The kernel's body run at a point that is neither the first nor the last. -/
module

public import proofs.«01_k».proof.Proof.Kern.RunA

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body run at a point that is neither the first nor the last: on whole buffers, the inputs' at their contents, it runs to the end; the inputs are as they were, an
    output it doesn't store into is handed back untouched, and every buffer it stores into holds the listed stores (the
    last first). The lists are found by the run. -/
noncomputable def kernelRun0_B (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : ¬cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs2 : Vec F S16x1536 .bf16) (xs3 : Vec F S1536x128 .f32) :
    Σ' (L8 : List (View.Piece (Elt F) S1536x2304 .bf16)), Σ' (L9 : List (View.Piece (Elt F) S16x2304 .bf16)), Σ' (L10 : List (View.Piece (Elt F) S512x16 .bf16)), Σ' (L11 : List (View.Piece (Elt F) S1x512 .f32)), Σ' (L12 : List (View.Piece (Elt F) S1536x512 .bf16)), Σ' (L13 : List (View.Piece (Elt F) S1536x16 .bf16)), Σ' (L14 : List (View.Piece (Elt F) S1536x16 .bf16)), Σ' (LS0 : List (View.Piece (Elt F) S1536x2304 .f32)), Σ' (LS1 : List (View.Piece (Elt F) S16x1536 .f32)), Σ' (LS2 : List (View.Piece (Elt F) S16x1536 .bf16)), Σ' (LS3 : List (View.Piece (Elt F) S1536x128 .f32)), Σ' (LT4 : List (View.Piece (Elt F) S512x2304 .bf16)), { LT5 : List (View.Piece (Elt F) S1536x512 .bf16) //
      ∀ (xi8 : Vec F S1536x2304 .bf16) (xi9 : Vec F S16x2304 .bf16) (xi13 : Vec F S1536x16 .bf16) (xi14 : Vec F S1536x16 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xi13 ∗ owns (c : Thread nD τ) arg15 fullShare xi14 ∗ owns (c : Thread nD τ) arg16 fullShare xs0 ∗ owns (c : Thread nD τ) arg17 fullShare xs1 ∗ owns (c : Thread nD τ) arg18 fullShare xs2 ∗ owns (c : Thread nD τ) arg19 fullShare xs3 ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xi13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ owns (c : Thread nD τ) arg18 fullShare xs2 ∗ owns (c : Thread nD τ) arg19 fullShare xs3 ∗ (∃ f, arg20.view.loc (c : Thread nD τ) ↦[arg20.view.set]{fullShare} arg20.view.writes (Elt F) f LT4) ∗ (∃ f, arg21.view.loc (c : Thread nD τ) ↦[arg21.view.set]{fullShare} arg21.view.writes (Elt F) f LT5)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], ?_, ?_, ?_, [], [], ?_, ?_, [], [], ?_, ?_, fun xi8 xi9 xi13 xi14 E K => ?run⟩
  case run =>
    simp only [cc0_dora_bwd_eq_skeleton]; unfold cc0_dora_bwd_skel
    simp only [k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hf13; obtain rfl := harg15.eq_unread hf14; obtain rfl := harg16.eq_unread hfs0; obtain rfl := harg17.eq_unread hfs1; obtain rfl := harg18.eq_unread hfs2; obtain rfl := harg19.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    isplitl [HS1]; · iexists _; iexact HS1
    isplitl [HS2]
    · iexists _; isplitr; · ipureintro; exact harg18.read_unread _
      iexact HS2
    isplitl [HS3]
    · iexists _; isplitr; · ipureintro; exact harg19.read_unread _
      iexact HS3
    isplitl [HS4]; · iexists _; iexact HS4
    iexists _; iexact HS5

end Cert.KernelIdeal.Kern

end
-- ==== Proof.Kern.ValueB.lean ====
/- What the body leaves in each buffer it stores into at a point that is neither the first nor the last, as the block functions of `Kern/Block.lean`. -/
module

public import proofs.«01_k».proof.Proof.Kern.Block
public import proofs.«01_k».proof.Proof.Kern.RunB

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL.Sem

section ValuesB
variable (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : ¬cond0_1 i)
  (x0 : Vec Ideal S1536x2304 .bf16) (x1 : Vec Ideal S512x2304 .fp8e4m3) (x2 : Vec Ideal S1x512 .f32) (x3 : Vec Ideal S16x2304 .bf16) (x4 : Vec Ideal S512x16 .bf16) (x5 : Vec Ideal S1x512 .f32) (x6 : Vec Ideal S1536x512 .fp8e5m2) (x7 : Vec Ideal S12x128 .f32) (xs0 : Vec Ideal S1536x2304 .f32) (xs1 : Vec Ideal S16x1536 .f32) (xs2 : Vec Ideal S16x1536 .bf16) (xs3 : Vec Ideal S1536x128 .f32)

/-- It leaves the block of the gradient of `lora_b`. -/
theorem left_B_L10 {sp : Space} (w : View sig .tc sp S512x16 .bf16) (f : w.ty.Contents (Elt Ideal)) :
    w.read (Elt Ideal) (w.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.1) = dbB xs2 (gB x6 xs3 (cB x5 (nB (vB x1 x2 x3 x4)))) := by
  rw [View.read_writes_eq_canon _ _ _ (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.1 S512x16.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the block of the gradient of the magnitudes. -/
theorem left_B_L11 {sp : Space} (w : View sig .tc sp S1x512 .f32) (f : w.ty.Contents (Elt Ideal)) :
    w.read (Elt Ideal) (w.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.1) = dmB x6 xs3 (zB x0 (vB x1 x2 x3 x4)) (nB (vB x1 x2 x3 x4)) := by
  rw [View.read_writes_eq_canon _ _ _ (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.1 S1x512.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the block of `z`. -/
theorem left_B_L12 {sp : Space} (w : View sig .tc sp S1536x512 .bf16) (f : w.ty.Contents (Elt Ideal)) :
    w.read (Elt Ideal) (w.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.1) = zB x0 (vB x1 x2 x3 x4) := by
  rw [View.read_writes_eq_canon _ _ _ (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.1 S1536x512.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the running sum of `g · v`. -/
theorem left_B_LS0 {sp : Space} (w : View sig .tc sp S1536x2304 .f32) (f : w.ty.Contents (Elt Ideal)) :
    w.read (Elt Ideal) (w.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.2.2.2.1) = accB (vB x1 x2 x3 x4) (gB x6 xs3 (cB x5 (nB (vB x1 x2 x3 x4)))) xs0 := by
  rw [View.read_writes_eq_canon _ _ _ (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.2.2.2.1 S1536x2304.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the running sum of `bᵀ · gᵀ`. -/
theorem left_B_LS1 {sp : Space} (w : View sig .tc sp S16x1536 .f32) (f : w.ty.Contents (Elt Ideal)) :
    w.read (Elt Ideal) (w.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.2.2.2.2.1) = gbtB x4 (gB x6 xs3 (cB x5 (nB (vB x1 x2 x3 x4)))) xs1 := by
  rw [View.read_writes_eq_canon _ _ _ (View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.2.2.2.2.1 S16x1536.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

end ValuesB

end Cert.KernelIdeal.Kern

end
-- ==== Proof.Kern.BodyB.lean ====
/- The body at a grid point that is neither the first nor the last: from the buffers as that point finds them to the contents `Kern/Data.lean` states. -/
module

public import proofs.«01_k».proof.Proof.Kern.Data
public import proofs.«01_k».proof.Proof.Kern.ValueB

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
/-- The body at a grid point that is neither the first nor the last. -/
theorem sound_B (c : Dev nD) (t : Fin cfg0.N) (h0 : ¬t.val % 18 = 0) (h1 : ¬t.val % 18 = 17) :
    bodyPre m c t ⊢ wp frame (wpE (defs₀ (F := Ideal)) Variants.none c none) Set.univ (bodyAt0 t) (fun _ => bodyPost m c t) := by
  have hz : t.val ≠ 0 := fun h => h0 (by rw [h])
  have hcA : ¬cond0_0 (grid0.coords t) := fun h => h0 ((hcond0_0 t).mp h)
  have hcA' : ¬cond0_1 (grid0.coords t) := fun h => h1 ((hcond0_1 t).mp h)
  unfold bodyPre bodyPost bodyAt0
  simp only [before0_0, before0_1, before0_2, before0_3, before0_4, before0_5, before0_6, before0_7]
  rw [show (dats m 0 c).owesAt () (t).succ = (dats m 0 c).owesAt () (t).castSucc from rfl]
  rw [show (dats m 0 c).Φ (t).succ = PhiS m c ((t).val + 1) (t).isLt from rfl, PhiS_succ]
  rw [leaves0_0, leaves0_1, leaves0_2, leaves0_3, leaves0_4, leaves0_5, leaves0_6, leaves0_7, leaves0_10, leaves0_11, leaves0_12]
  rw [Dat.leavesExact_idle (dats m 0 c) 8 t (idleAt0_8_B t hcA hcA') (noFlush0_8_B t hcA hcA')]
  rw [Dat.leavesExact_idle (dats m 0 c) 9 t (idleAt0_9_B t hcA hcA') (noFlush0_9_B t hcA hcA')]
  rw [Dat.leavesExact_idle (dats m 0 c) 14 t (idleAt0_14_B t hcA hcA') (noFlush0_14_B t hcA hcA')]
  rw [Dat.leavesExact_idle (dats m 0 c) 13 t (idleAt0_13_B t hcA hcA') (noFlush0_13_B t hcA hcA')]
  rw [PhiS_castSucc m c t, PhiS_pos m c _ _ hz]
  rw [accT_succ, gbtT_succ]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_B c (grid0.coords t) _ _ _ _ _ _ _ _ _ _ _ _ _ _ _ _ _ _ _ _ _ _ _ _ _ _ _ _ _ _ _ _ _ _ _ _ _ _ _ _ _ _ hcA hcA' (iblk m c 0 t) (iblk m c 1 t) (iblk m c 2 t) (iblk m c 3 t) (iblk m c 4 t) (iblk m c 5 t) (iblk m c 6 t) (iblk m c 7 t) (accT m c t.val) (gbtT m c t.val) (xat0 m c) (dys0 m c)).2.2.2.2.2.2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, ⟨%e10, H10⟩, ⟨%e11, H11⟩, ⟨%e12, H12⟩, H13, H14, ⟨%es0, HS0⟩, ⟨%es1, HS1⟩, HS2, HS3, ⟨%es4, HS4⟩, ⟨%es5, HS5⟩⟩
  isplitl [HS0 HS1 HS2 HS3 HS4 HS5 Hg]
  · isplitl [HS0 HS1 HS2 HS3 HS4 HS5]
    · isplitl [HS0]
      · unfold owns; iexists _; isplitr
        swap; · iexact HS0
        ipureintro; exact left_B_LS0 ..
      isplitl [HS1]
      · unfold owns; iexists _; isplitr
        swap; · iexact HS1
        ipureintro; exact left_B_LS1 ..
      isplitl [HS2]
      · iexact HS2
      isplitl [HS3]
      · iexact HS3
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · unfold owns; iexists _; isplitr
    swap; · iexact H10
    ipureintro; exact left_B_L10 ..
  isplitl [H11]
  · unfold owns; iexists _; isplitr
    swap; · iexact H11
    ipureintro; exact left_B_L11 ..
  isplitl [H12]
  · unfold owns; iexists _; isplitr
    swap; · iexact H12
    ipureintro; exact left_B_L12 ..
  isplitl [H13]
  · iexists _; iexact H13
  iexists _; iexact H14

end Cert.KernelIdeal.Kern

end
-- ==== Proof.Kern.RunC.lean ====
/- The kernel's body run at the last point. -/
module

public import proofs.«01_k».proof.Proof.Kern.RunB

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body run at the last point: on whole buffers, the inputs' at their contents, it runs to the end; the inputs are as they were, an
    output it doesn't store into is handed back untouched, and every buffer it stores into holds the listed stores (the
    last first). The lists are found by the run. -/
noncomputable def kernelRun0_C (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : cond0_1 i)
    (x0 : Vec F S1536x2304 .bf16) (x1 : Vec F S512x2304 .fp8e4m3) (x2 : Vec F S1x512 .f32) (x3 : Vec F S16x2304 .bf16) (x4 : Vec F S512x16 .bf16) (x5 : Vec F S1x512 .f32) (x6 : Vec F S1536x512 .fp8e5m2) (x7 : Vec F S12x128 .f32) (xs0 : Vec F S1536x2304 .f32) (xs1 : Vec F S16x1536 .f32) (xs2 : Vec F S16x1536 .bf16) (xs3 : Vec F S1536x128 .f32) :
    Σ' (L8 : List (View.Piece (Elt F) S1536x2304 .bf16)), Σ' (L9 : List (View.Piece (Elt F) S16x2304 .bf16)), Σ' (L10 : List (View.Piece (Elt F) S512x16 .bf16)), Σ' (L11 : List (View.Piece (Elt F) S1x512 .f32)), Σ' (L12 : List (View.Piece (Elt F) S1536x512 .bf16)), Σ' (L14 : List (View.Piece (Elt F) S1536x16 .bf16)), Σ' (LS0 : List (View.Piece (Elt F) S1536x2304 .f32)), Σ' (LS1 : List (View.Piece (Elt F) S16x1536 .f32)), Σ' (LS2 : List (View.Piece (Elt F) S16x1536 .bf16)), Σ' (LS3 : List (View.Piece (Elt F) S1536x128 .f32)), Σ' (LT4 : List (View.Piece (Elt F) S512x2304 .bf16)), { LT5 : List (View.Piece (Elt F) S1536x512 .bf16) //
      ∀ (xi13 : Vec F S1536x16 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xi13 ∗ (∃ d, owns (c : Thread nD τ) arg15 fullShare d) ∗ owns (c : Thread nD τ) arg16 fullShare xs0 ∗ owns (c : Thread nD τ) arg17 fullShare xs1 ∗ owns (c : Thread nD τ) arg18 fullShare xs2 ∗ owns (c : Thread nD τ) arg19 fullShare xs3 ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xi13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ owns (c : Thread nD τ) arg18 fullShare xs2 ∗ owns (c : Thread nD τ) arg19 fullShare xs3 ∗ (∃ f, arg20.view.loc (c : Thread nD τ) ↦[arg20.view.set]{fullShare} arg20.view.writes (Elt F) f LT4) ∗ (∃ f, arg21.view.loc (c : Thread nD τ) ↦[arg21.view.set]{fullShare} arg21.view.writes (Elt F) f LT5)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, [], [], ?_, ?_, fun xi13 E K => ?run⟩
  case run =>
    simp only [cc0_dora_bwd_eq_skeleton]; unfold cc0_dora_bwd_skel
    simp only [k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%d14, %f14, -, H14⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hf13; obtain rfl := harg16.eq_unread hfs0; obtain rfl := harg17.eq_unread hfs1; obtain rfl := harg18.eq_unread hfs2; obtain rfl := harg19.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _; isplitr; · ipureintro; exact harg14.read_unread _
      iexact H13
    isplitl [H14]; · iexists _; iexact H14
    isplitl [HS0]; · iexists _; iexact HS0
    isplitl [HS1]; · iexists _; iexact HS1
    isplitl [HS2]
    · iexists _; isplitr; · ipureintro; exact harg18.read_unread _
      iexact HS2
    isplitl [HS3]
    · iexists _; isplitr; · ipureintro; exact harg19.read_unread _
      iexact HS3
    isplitl [HS4]; · iexists _; iexact HS4
    iexists _; iexact HS5

end Cert.KernelIdeal.Kern

end
-- ==== Proof.Kern.ValueC.lean ====
/- What the body leaves in each buffer it stores into at the last point, as the block functions of `Kern/Block.lean`. -/
module

public import proofs.«01_k».proof.Proof.Kern.Block
public import proofs.«01_k».proof.Proof.Kern.RunC

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL.Sem

section ValuesC
variable (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S1x512 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S1x512 .f32) (harg6 : arg6.IsWhole) (arg7 : Memref sig .tc .vmem S1536x512 .fp8e5m2) (harg7 : arg7.IsWhole) (arg8 : Memref sig .tc .vmem S12x128 .f32) (harg8 : arg8.IsWhole) (arg9 : Memref sig .tc .vmem S1536x2304 .bf16) (harg9 : arg9.IsWhole) (arg10 : Memref sig .tc .vmem S16x2304 .bf16) (harg10 : arg10.IsWhole) (arg11 : Memref sig .tc .vmem S512x16 .bf16) (harg11 : arg11.IsWhole) (arg12 : Memref sig .tc .vmem S1x512 .f32) (harg12 : arg12.IsWhole) (arg13 : Memref sig .tc .vmem S1536x512 .bf16) (harg13 : arg13.IsWhole) (arg14 : Memref sig .tc .vmem S1536x16 .bf16) (harg14 : arg14.IsWhole) (arg15 : Memref sig .tc .vmem S1536x16 .bf16) (harg15 : arg15.IsWhole) (arg16 : Memref sig .tc .vmem S1536x2304 .f32) (harg16 : arg16.IsWhole) (arg17 : Memref sig .tc .vmem S16x1536 .f32) (harg17 : arg17.IsWhole) (arg18 : Memref sig .tc .vmem S16x1536 .bf16) (harg18 : arg18.IsWhole) (arg19 : Memref sig .tc .vmem S1536x128 .f32) (harg19 : arg19.IsWhole) (arg20 : Memref sig .tc .vmem S512x2304 .bf16) (harg20 : arg20.IsWhole) (arg21 : Memref sig .tc .vmem S1536x512 .bf16) (harg21 : arg21.IsWhole) (hc0 : ¬cond0_0 i) (hc1 : cond0_1 i)
  (x0 : Vec Ideal S1536x2304 .bf16) (x1 : Vec Ideal S512x2304 .fp8e4m3) (x2 : Vec Ideal S1x512 .f32) (x3 : Vec Ideal S16x2304 .bf16) (x4 : Vec Ideal S512x16 .bf16) (x5 : Vec Ideal S1x512 .f32) (x6 : Vec Ideal S1536x512 .fp8e5m2) (x7 : Vec Ideal S12x128 .f32) (xs0 : Vec Ideal S1536x2304 .f32) (xs1 : Vec Ideal S16x1536 .f32) (xs2 : Vec Ideal S16x1536 .bf16) (xs3 : Vec Ideal S1536x128 .f32)

/-- It leaves the gradient of `x`. -/
theorem left_C_L8 {sp : Space} (w : View sig .tc sp S1536x2304 .bf16) (f : w.ty.Contents (Elt Ideal)) :
    w.read (Elt Ideal) (w.writes (Elt Ideal) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).1) = dxB (accB (vB x1 x2 x3 x4) (gB x6 xs3 (cB x5 (nB (vB x1 x2 x3 x4)))) xs0) := by
  rw [View.read_writes_eq_canon _ _ _ (View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).1 S1536x2304.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the gradient of `lora_a`. -/
theorem left_C_L9 {sp : Space} (w : View sig .tc sp S16x2304 .bf16) (f : w.ty.Contents (Elt Ideal)) :
    w.read (Elt Ideal) (w.writes (Elt Ideal) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.1) = daB (gbtB x4 (gB x6 xs3 (cB x5 (nB (vB x1 x2 x3 x4)))) xs1) x0 := by
  rw [View.read_writes_eq_canon _ _ _ (View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.1 S16x2304.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the block of the gradient of `lora_b`. -/
theorem left_C_L10 {sp : Space} (w : View sig .tc sp S512x16 .bf16) (f : w.ty.Contents (Elt Ideal)) :
    w.read (Elt Ideal) (w.writes (Elt Ideal) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.1) = dbB xs2 (gB x6 xs3 (cB x5 (nB (vB x1 x2 x3 x4)))) := by
  rw [View.read_writes_eq_canon _ _ _ (View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.1 S512x16.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the block of the gradient of the magnitudes. -/
theorem left_C_L11 {sp : Space} (w : View sig .tc sp S1x512 .f32) (f : w.ty.Contents (Elt Ideal)) :
    w.read (Elt Ideal) (w.writes (Elt Ideal) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.1) = dmB x6 xs3 (zB x0 (vB x1 x2 x3 x4)) (nB (vB x1 x2 x3 x4)) := by
  rw [View.read_writes_eq_canon _ _ _ (View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.1 S1x512.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the block of `z`. -/
theorem left_C_L12 {sp : Space} (w : View sig .tc sp S1536x512 .bf16) (f : w.ty.Contents (Elt Ideal)) :
    w.read (Elt Ideal) (w.writes (Elt Ideal) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.1) = zB x0 (vB x1 x2 x3 x4) := by
  rw [View.read_writes_eq_canon _ _ _ (View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.1 S1536x512.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the transpose of the sum `bᵀ · gᵀ`. -/
theorem left_C_L14 {sp : Space} (w : View sig .tc sp S1536x16 .bf16) (f : w.ty.Contents (Elt Ideal)) :
    w.read (Elt Ideal) (w.writes (Elt Ideal) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.2.1) = gbB (gbtB x4 (gB x6 xs3 (cB x5 (nB (vB x1 x2 x3 x4)))) xs1) := by
  rw [View.read_writes_eq_canon _ _ _ (View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.2.1 S1536x16.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the running sum of `g · v`. -/
theorem left_C_LS0 {sp : Space} (w : View sig .tc sp S1536x2304 .f32) (f : w.ty.Contents (Elt Ideal)) :
    w.read (Elt Ideal) (w.writes (Elt Ideal) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.2.2.1) = accB (vB x1 x2 x3 x4) (gB x6 xs3 (cB x5 (nB (vB x1 x2 x3 x4)))) xs0 := by
  rw [View.read_writes_eq_canon _ _ _ (View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.2.2.1 S1536x2304.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

/-- It leaves the running sum of `bᵀ · gᵀ`. -/
theorem left_C_LS1 {sp : Space} (w : View sig .tc sp S16x1536 .f32) (f : w.ty.Contents (Elt Ideal)) :
    w.read (Elt Ideal) (w.writes (Elt Ideal) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.2.2.2.1) = gbtB x4 (gB x6 xs3 (cB x5 (nB (vB x1 x2 x3 x4)))) xs1 := by
  rw [View.read_writes_eq_canon _ _ _ (View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3).2.2.2.2.2.2.2.1 S16x1536.size (by sl_kernel_rfl))]
  have hv := canon_vTiles x1 x2 x3 x4
  have hn := nPay_eq x1 x2 x3 x4
  have hc := cPay_eq x1 x2 x3 x4 x5
  have hg := fun s c => canon_gTiles x6 s c
  unfold vTiles at hv; unfold nPay sqChain at hn; unfold sqChain at hc; unfold gTiles at hg
  unfold kernelRun0_C; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1536x2304) hz, View.ld_unit_zero (S := S1x512) hz, View.ld_unit_zero (S := S16x2304) hz,
    View.ld_unit_zero (S := S512x16) hz, View.ld_unit_zero (S := S16x1536) hz, View.ld_unit_zero (S := S1536x128) hz,
    readCov_whole (S := S512x2304) _ _ hz, readCov_whole (S := S1536x512) _ _ hz, readCov_whole (S := S1536x128) _ _ hz,
    readCov_whole (S := S1536x2304) _ _ hz, readCov_whole (S := S16x1536) _ _ hz]
  simp only [View.canon_cons_unit_zero (S := S512x16) hz, View.canon_cons_unit_zero (S := S1x512) hz, View.canon_cons_unit_zero (S := S1536x512) hz,
    View.canon_cons_unit_zero (S := S1536x2304) hz, View.canon_cons_unit_zero (S := S16x1536) hz, View.canon_cons_unit_zero (S := S16x2304) hz, View.canon_cons_unit_zero (S := S1536x16) hz]
  simp only [hv, hn, hc, hg, zPay_eq, zStore_eq, dmPay_eq, dbPay_eq, dxPay_eq, gbPay_eq, daPay_eq, xatPay_eq, xaPay_eq, accZero_eq, gbtZero_eq, accPay_eq, gbtPay_eq]

end ValuesC

end Cert.KernelIdeal.Kern

end
-- ==== Proof.Kern.BodyC.lean ====
/- The body at the last grid point: from the buffers as that point finds them to the contents `Kern/Data.lean` states. -/
module

public import proofs.«01_k».proof.Proof.Kern.Data
public import proofs.«01_k».proof.Proof.Kern.ValueC

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
/-- The body at the last grid point. -/
theorem sound_C (c : Dev nD) (t : Fin cfg0.N) (h0 : ¬t.val % 18 = 0) (h1 : t.val % 18 = 17) :
    bodyPre m c t ⊢ wp frame (wpE (defs₀ (F := Ideal)) Variants.none c none) Set.univ (bodyAt0 t) (fun _ => bodyPost m c t) := by
  have hz : t.val ≠ 0 := fun h => h0 (by rw [h])
  have hcA : ¬cond0_0 (grid0.coords t) := fun h => h0 ((hcond0_0 t).mp h)
  have hcA' : cond0_1 (grid0.coords t) := (hcond0_1 t).mpr h1
  have hl : t.val + 1 = 18 := by have := lt_of_lt_of_eq t.isLt (show cfg0.N = 18 from N_0); omega
  unfold bodyPre bodyPost bodyAt0
  simp only [before0_0, before0_1, before0_2, before0_3, before0_4, before0_5, before0_6, before0_7]
  rw [show (dats m 0 c).owesAt () (t).succ = (dats m 0 c).owesAt () (t).castSucc from rfl]
  rw [show (dats m 0 c).Φ (t).succ = PhiS m c ((t).val + 1) (t).isLt from rfl, PhiS_succ]
  rw [leaves0_0, leaves0_1, leaves0_2, leaves0_3, leaves0_4, leaves0_5, leaves0_6, leaves0_7, leaves0_10, leaves0_11, leaves0_12]
  rw [show (dats m 0 c).leavesExact 8 t = owns (c : Thread nD τ) (ms0_8 t) fullShare ((dats m 0 c).after 8 t) from by
    unfold Dat.leavesExact; rw [liveAt0_8_C t hcA hcA'], after0_8]
  rw [show (dats m 0 c).leavesExact 9 t = owns (c : Thread nD τ) (ms0_9 t) fullShare ((dats m 0 c).after 9 t) from by
    unfold Dat.leavesExact; rw [liveAt0_9_C t hcA hcA'], after0_9]
  rw [show (dats m 0 c).leavesExact 14 t = owns (c : Thread nD τ) (ms0_14 t) fullShare ((dats m 0 c).after 14 t) from by
    unfold Dat.leavesExact; rw [liveAt0_14_C t hcA hcA'], after0_14]
  rw [show (dats m 0 c).leavesExact 13 t = owns (c : Thread nD τ) (ms0_13 t) fullShare ((dats m 0 c).after 13 t) from by
    unfold Dat.leavesExact; rw [idleAt0_13_C t hcA hcA', show (cfg0.win 13).flush t = true from by rw [flush13]; simp; omega], after0_13]
  simp only [before0_13_pos m c t hz]
  rw [PhiS_castSucc m c t, PhiS_pos m c _ _ hz]
  rw [← hl, accT_succ, gbtT_succ]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_C c (grid0.coords t) _ _ _ _ _ _ _ _ _ _ _ _ _ _ _ _ _ _ _ _ _ _ _ _ _ _ _ _ _ _ _ _ _ _ _ _ _ _ _ _ _ _ hcA hcA' (iblk m c 0 t) (iblk m c 1 t) (iblk m c 2 t) (iblk m c 3 t) (iblk m c 4 t) (iblk m c 5 t) (iblk m c 6 t) (iblk m c 7 t) (accT m c t.val) (gbtT m c t.val) (xat0 m c) (dys0 m c)).2.2.2.2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [H14]; · iexists _; iexact H14
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%e8, H8⟩, ⟨%e9, H9⟩, ⟨%e10, H10⟩, ⟨%e11, H11⟩, ⟨%e12, H12⟩, H13, ⟨%e14, H14⟩, ⟨%es0, HS0⟩, ⟨%es1, HS1⟩, HS2, HS3, ⟨%es4, HS4⟩, ⟨%es5, HS5⟩⟩
  isplitl [HS0 HS1 HS2 HS3 HS4 HS5 Hg]
  · isplitl [HS0 HS1 HS2 HS3 HS4 HS5]
    · isplitl [HS0]
      · unfold owns; iexists _; isplitr
        swap; · iexact HS0
        ipureintro; exact left_C_LS0 ..
      isplitl [HS1]
      · unfold owns; iexists _; isplitr
        swap; · iexact HS1
        ipureintro; exact left_C_LS1 ..
      isplitl [HS2]
      · iexact HS2
      isplitl [HS3]
      · iexact HS3
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr
    swap; · iexact H8
    ipureintro; exact left_C_L8 ..
  isplitl [H9]
  · unfold owns; iexists _; isplitr
    swap; · iexact H9
    ipureintro; exact left_C_L9 ..
  isplitl [H10]
  · unfold owns; iexists _; isplitr
    swap; · iexact H10
    ipureintro; exact left_C_L10 ..
  isplitl [H11]
  · unfold owns; iexists _; isplitr
    swap; · iexact H11
    ipureintro; exact left_C_L11 ..
  isplitl [H12]
  · unfold owns; iexists _; isplitr
    swap; · iexact H12
    ipureintro; exact left_C_L12 ..
  isplitl [H13]
  · iexact H13
  unfold owns; iexists _; isplitr
  swap; · iexact H14
  ipureintro; exact left_C_L14 ..

end Cert.KernelIdeal.Kern

end
-- ==== Proof.Kern.Frame.lean ====
/- The kernel run over the extended reals: every grid point from the three cases, the launch, and the frame. -/
module

public import proofs.«01_k».proof.Proof.Kern.BodyA
public import proofs.«01_k».proof.Proof.Kern.BodyB
public import proofs.«01_k».proof.Proof.Kern.BodyC
public import Idealize.ShloMosaic.Lib.Claim

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 18 := lt_of_lt_of_eq t.isLt (show cfg0.N = 18 from N_0)
  by_cases h0 : t.val % 18 = 0
  · obtain rfl : t = t0 := Fin.ext (by show t.val = 0; omega)
    exact sound_A m c
  · by_cases h1 : t.val % 18 = 17
    · exact sound_C m c t h0 h1
    · exact sound_B m c t h0 h1

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 18 := N_0; omega), PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexact HS4
    iexact HS5
  iexact Hg

set_option backward.isDefEq.respectTransparency.types false in
/-- The launch: the kernel ends with every array as the contents of `Kern/Data.lean` make it, and every semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the kernel terminates, its argument arrays end unchanged and its semaphores at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Kern

end
-- ==== Proof.Kern.Final.lean ====
/- The kernel's seven result arrays after the run, as the tables of `Kern/Spec.lean`. -/
module

public import proofs.«01_k».proof.Proof.Kern.Blocks
public import proofs.«01_k».proof.Proof.Kern.Frame

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg) (c : Dev nD)

/-- The last grid point. -/
def tLast : Fin cfg0.N := ⟨17, by rw [show cfg0.N = 18 from N_0]; decide⟩

theorem idx10 : ∀ t : Fin cfg0.N, win0_10.index t = ![t.val, 0] := by decide +kernel
theorem idx11 : ∀ t : Fin cfg0.N, win0_11.index t = ![0, t.val] := by decide +kernel
theorem idx12 : ∀ t : Fin cfg0.N, win0_12.index t = ![0, t.val] := by decide +kernel

/-- The gradient of `x`. -/
theorem final8 : (dats m 0 c).arrAt 8 cfg0.N = fun i => (kd m c).dx (i 0) (i 1) := by
  refine (dats m 0 c).arrAt_eq_of_after_last 8 tLast (by decide +kernel) _ fun j => ?_
  blk_simp
  rw [after0_8]
  exact (congrArg (accT m c 18) (ix2_eta (n0 := 1536) (n1 := 2304) j).symm).trans (accT_apply m c (j 0) (j 1))

/-- The gradient of `a`. -/
theorem final9 : (dats m 0 c).arrAt 9 cfg0.N = fun i => (kd m c).da (i 0) (i 1) := by
  refine (dats m 0 c).arrAt_eq_of_after_last 9 tLast (by decide +kernel) _ fun j => ?_
  blk_simp
  rw [after0_9]
  exact (congrArg (daB (gbtT m c 18) (iblk m c 0 tLast)) (ix2_eta (n0 := 16) (n1 := 2304) j).symm).trans (daT_apply m c tLast (j 0) (j 1))

/-- The product of `x` and `a`. -/
theorem final13 : (dats m 0 c).arrAt 13 cfg0.N = fun i => (kd m c).xa (i 0) (i 1) := by
  refine (dats m 0 c).arrAt_eq_of_after_last 13 tLast (by decide +kernel) _ fun j => ?_
  blk_simp
  rw [after0_13]
  exact (congrArg (xa0 m c) (ix2_eta (n0 := 1536) (n1 := 16) j).symm).trans (xa0_apply m c (j 0) (j 1))

/-- The product of the scaled output gradient and `b`. -/
theorem final14 : (dats m 0 c).arrAt 14 cfg0.N = fun i => (kd m c).gb (i 0) (i 1) := by
  refine (dats m 0 c).arrAt_eq_of_after_last 14 tLast (by decide +kernel) _ fun j => ?_
  blk_simp
  rw [after0_14]
  exact gbtT_apply m c (j 1) (j 0)

/-- The gradient of `b`. -/
theorem final10 : (dats m 0 c).arrAt 10 cfg0.N = fun i => (kd m c).db (i 0) (i 1) := by
  refine (dats m 0 c).arrAt_eq_of_covers 10 _ (by decide +kernel) fun t hf y => ?_
  blk_simp
  rw [after0_10]
  have e0 : (win0_10.blk t).view.emb y 0 = chan t (y 0) := by
    refine Fin.ext ?_
    blk_simp [idx10 t]
  have e1 : (win0_10.blk t).view.emb y 1 = y 1 := by
    refine Fin.ext ?_
    blk_simp [idx10 t]
  rw [e0, e1]
  exact (congrArg (dbB (xat0 m c) (gT m c t)) (ix2_eta (n0 := 512) (n1 := 16) y).symm).trans (dbT_apply m c t (y 0) (y 1))

/-- A multi-index of a single row is that of row 0. -/
theorem ix2_row {n : ℕ} (y : (⟨2, ![1, n]⟩ : Shape).Idx) : ix2 (n0 := 1) (n1 := n) 0 (y 1) = y := by
  funext i
  match i with
  | ⟨0, _⟩ => exact Subsingleton.elim (α := Fin 1) _ _
  | ⟨1, _⟩ => rfl

/-- The gradient of the magnitudes, one row. -/
theorem final11 : (dats m 0 c).arrAt 11 cfg0.N = fun i => (kd m c).dm (i 1) := by
  refine (dats m 0 c).arrAt_eq_of_covers 11 _ (by decide +kernel) fun t hf y => ?_
  blk_simp
  rw [after0_11]
  have e1 : (win0_11.blk t).view.emb y 1 = chan t (y 1) := by
    refine Fin.ext ?_
    blk_simp [idx11 t]
  rw [e1]
  exact (congrArg (dmB (iblk m c 6 t) (dys0 m c) (zB (iblk m c 0 t) (vT m c t)) (nT m c t)) (ix2_row y).symm).trans (dmT_apply m c t (y 1))

/-- The product of `x` and the merged weight. -/
theorem final12 : (dats m 0 c).arrAt 12 cfg0.N = fun i => (kd m c).z (i 0) (i 1) := by
  refine (dats m 0 c).arrAt_eq_of_covers 12 _ (by decide +kernel) fun t hf y => ?_
  blk_simp
  rw [after0_12]
  have e0 : (win0_12.blk t).view.emb y 0 = y 0 := by
    refine Fin.ext ?_
    blk_simp [idx12 t]
  have e1 : (win0_12.blk t).view.emb y 1 = chan t (y 1) := by
    refine Fin.ext ?_
    blk_simp [idx12 t]
  rw [e0, e1]
  exact (congrArg (zB (iblk m c 0 t) (vT m c t)) (ix2_eta (n0 := 1536) (n1 := 512) y).symm).trans (zT_apply m c t (y 0) (y 1))

end Cert.KernelIdeal.Kern

end
-- ==== Proof.Kern.Run.lean ====
/- The kernel's run: its seven results are the tables of `Kern/Spec.lean`. -/
module

public import proofs.«01_k».proof.Proof.Kern.Final

@[expose] public section

set_option maxRecDepth 16384

noncomputable section

namespace Cert.KernelIdeal.Kern

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- Every execution of the kernel ends with the seven results at their tables, and its arguments unchanged. -/
theorem run : θ_run (defs (F := Ideal)) (onTc (τ := τ) (main (F := Ideal))) ⟨m, fun _ => 0, ρ⟩ fun r => ∀ c : Dev nD,
      r.2.mem ((c.tc : Thread nD τ).loc main_v4_0) = (fun i => (kd m c).dx (i 0) (i 1))
      ∧ r.2.mem ((c.tc : Thread nD τ).loc main_v4_1) = (fun i => (kd m c).da (i 0) (i 1))
      ∧ r.2.mem ((c.tc : Thread nD τ).loc main_v4_2) = (fun i => (kd m c).db (i 0) (i 1))
      ∧ r.2.mem ((c.tc : Thread nD τ).loc main_v4_3) = (fun i => (kd m c).dm (i 1))
      ∧ r.2.mem ((c.tc : Thread nD τ).loc main_v4_4) = (fun i => (kd m c).z (i 0) (i 1))
      ∧ r.2.mem ((c.tc : Thread nD τ).loc main_v4_5) = (fun i => (kd m c).xa (i 0) (i 1))
      ∧ r.2.mem ((c.tc : Thread nD τ).loc main_v4_6) = (fun i => (kd m c).gb (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun r h c => ⟨((h.1 c).1 8).trans (final8 m c),
    ((h.1 c).1 9).trans (final9 m c),
    ((h.1 c).1 10).trans (final10 m c),
    ((h.1 c).1 11).trans (final11 m c),
    ((h.1 c).1 12).trans (final12 m c),
    ((h.1 c).1 13).trans (final13 m c),
    ((h.1 c).1 14).trans (final14 m c), h.2 c⟩) (θ_run_and (run_main m ρ) (unchanged m ρ))

end Cert.KernelIdeal.Kern

end
-- ==== Proof.Ref.Value.lean ====
/- The reference's host operations after its call, read at an index: each result is a table of `Kern/Spec.lean`. -/
module

public import proofs.«01_k».proof.Proof.Gen.ReferenceIdeal.Read
public import proofs.«01_k».proof.Proof.Kern.Spec

@[expose] public section

set_option maxRecDepth 16384

noncomputable section

namespace Cert.ReferenceIdeal.Ref

open Cert.ReferenceIdeal Cert.ReferenceIdeal.Read
open Idealize.ShloMosaic

/-- A table read at an index with the given coordinates. -/
theorem at2 {n0 n1 : ℕ} {α : Type} (x : (⟨2, ![n0, n1]⟩ : Shape).Idx → α) {f : (⟨2, ![n0, n1]⟩ : Shape).Idx} {p : Fin n0} {q : Fin n1} {e : α}
    (h : x (ix2 p q) = e) (h0 : f 0 = p := by rfl) (h1 : f 1 = q := by rfl) : x f = e := by
  subst h0 h1
  rw [← ix2_eta f]
  exact h

theorem at1 {n0 : ℕ} {α : Type} (x : (⟨1, ![n0]⟩ : Shape).Idx → α) {f : (⟨1, ![n0]⟩ : Shape).Idx} {p : Fin n0} {e : α}
    (h : x (ix1 p) = e) (h0 : f 0 = p := by rfl) : x f = e := by
  subst h0
  rw [← ix1_eta f]
  exact h

theorem mul_eq {p q a b : EReal} (h : p = a) (h' : q = b) : p * q = a * b := by rw [h, h']
theorem add_eq {p q a b : EReal} (h : p = a) (h' : q = b) : p + q = a + b := by rw [h, h']

/-- The arrays that the host operations read hold the tables of `D`. -/
structure Reads (D : Dora.Data) (x2 : Vec Ideal S9216 .f32) (x3 : Vec Ideal S16x2304 .bf16) (x4 : Vec Ideal S9216x16 .bf16)
    (x5 : Vec Ideal S9216 .f32) (r0 : Vec Ideal S9216x2304 .f32) (r1 : Vec Ideal S1536x9216 .f32)
    (e0 : Vec Ideal S1536x2304 .bf16) (e1 : Vec Ideal S1536 .f32) : Prop where
  ws : ∀ o, x2 (ix1 o) = D.ws o
  a : ∀ r i, x3 (ix2 r i) = D.a r i
  b : ∀ o r, x4 (ix2 o r) = D.b o r
  mag : ∀ o, x5 (ix1 o) = D.mag o
  w : ∀ o i, r0 (ix2 o i) = D.w o i
  dy : ∀ t o, r1 (ix2 t o) = D.dy t o
  x : ∀ t i, e0 (ix2 t i) = D.x t i
  dys : ∀ t, e1 (ix1 t) = D.dys t

variable {D : Dora.Data} {x2 : Vec Ideal S9216 .f32} {x3 : Vec Ideal S16x2304 .bf16} {x4 : Vec Ideal S9216x16 .bf16}
  {x5 : Vec Ideal S9216 .f32} {r0 : Vec Ideal S9216x2304 .f32} {r1 : Vec Ideal S1536x9216 .f32}
  {e0 : Vec Ideal S1536x2304 .bf16} {e1 : Vec Ideal S1536 .f32} (h : Reads D x2 x3 x4 x5 r0 r1 e0 e1)

include h

theorem v_at (o : Fin 9216) (i : Fin 2304) : val_main_v8 (F := Ideal) x2 x3 x4 r0 (ix2 o i) = D.v o i := by
  have h5 : val_main_v5 (F := Ideal) x2 (ix2 o i) = D.ws o :=
    (val_main_v5_apply x2 _).trans ((val_main_v4_apply x2 _).trans (at1 x2 (h.ws o)))
  have h7 := (val_main_v7_apply x3 x4 (ix2 o i)).trans (Finset.sum_congr rfl fun r _ => mul_eq (at2 x4 (h.b o r)) (at2 x3 (h.a r i)))
  exact add_eq (mul_eq (h.w o i) h5) h7

theorem vb_at (o : Fin 9216) (i : Fin 2304) : val_main_v13 (F := Ideal) x2 x3 x4 r0 (ix2 o i) = D.v o i := v_at h o i

theorem n_at (o : Fin 9216) : val_main_v11 (F := Ideal) x2 x3 x4 r0 (ix1 o) = D.n o := by
  refine congrArg Ideal.sqrt (((val_main_v10_apply x2 x3 x4 r0 (ix1 o)).trans (add_eq Ideal.ofBits_zero_f32 (Finset.sum_congr rfl fun i _ => ?_))).trans (zero_add _))
  exact at2 (val_main_v9 (F := Ideal) x2 x3 x4 r0) (mul_eq (v_at h o i) (v_at h o i))

theorem c_at (o : Fin 9216) : val_main_v12 (F := Ideal) x2 x3 x4 x5 r0 (ix1 o) = D.c o :=
  congrArg₂ Ideal.div (h.mag o) (n_at h o)

theorem z_at (t : Fin 1536) (o : Fin 9216) : val_main_v14 (F := Ideal) x2 x3 x4 r0 e0 (ix2 t o) = D.z t o :=
  (val_main_v14_apply x2 x3 x4 r0 e0 (ix2 t o)).trans (Finset.sum_congr rfl fun i _ => mul_eq (at2 e0 (h.x t i)) (at2 (val_main_v13 (F := Ideal) x2 x3 x4 r0) (vb_at h o i)))

theorem dyd_at (t : Fin 1536) (o : Fin 9216) : val_main_v17 (F := Ideal) r1 e1 (ix2 t o) = D.dyd t o :=
  mul_eq (h.dy t o) ((val_main_v16_apply e1 _).trans ((val_main_v15_apply e1 _).trans (at1 e1 (h.dys t))))

theorem dm_at (o : Fin 9216) : val_main_v20 (F := Ideal) x2 x3 x4 r0 r1 e0 e1 (ix1 o) = D.dm o := by
  refine congrArg₂ Ideal.div (((val_main_v19_apply x2 x3 x4 r0 r1 e0 e1 (ix1 o)).trans (add_eq Ideal.ofBits_zero_f32 (Finset.sum_congr rfl fun t _ => ?_))).trans (zero_add _)) (n_at h o)
  exact at2 (val_main_v18 (F := Ideal) x2 x3 x4 r0 r1 e0 e1) (mul_eq (dyd_at h t o) (z_at h t o))

theorem g_at (t : Fin 1536) (o : Fin 9216) : val_main_v24 (F := Ideal) x2 x3 x4 x5 r0 r1 e1 (ix2 t o) = D.g t o :=
  mul_eq (dyd_at h t o) ((val_main_v22_apply x2 x3 x4 x5 r0 _).trans ((val_main_v21_apply x2 x3 x4 x5 r0 _).trans (at1 (val_main_v12 (F := Ideal) x2 x3 x4 x5 r0) (c_at h o))))

theorem xa_at (t : Fin 1536) (r : Fin 16) : val_main_v28 (F := Ideal) x3 e0 (ix2 t r) = D.xa t r :=
  (val_main_v27_apply x3 e0 (ix2 t r)).trans (Finset.sum_congr rfl fun i _ => mul_eq (at2 e0 (h.x t i)) (at2 x3 (h.a r i)))

theorem gb_at (t : Fin 1536) (r : Fin 16) : val_main_v30 (F := Ideal) x2 x3 x4 x5 r0 r1 e1 (ix2 t r) = D.gb t r :=
  (val_main_v29_apply x2 x3 x4 x5 r0 r1 e1 (ix2 t r)).trans (Finset.sum_congr rfl fun o _ => mul_eq (at2 (val_main_v24 (F := Ideal) x2 x3 x4 x5 r0 r1 e1) (g_at h t o)) (at2 x4 (h.b o r)))

/-- The reference's gradient of `x`, as an array. -/
theorem dx_arr : val_main_v26 (F := Ideal) x2 x3 x4 x5 r0 r1 e1 = fun i => D.dx (i 0) (i 1) :=
  funext fun i => (val_main_v25_apply x2 x3 x4 x5 r0 r1 e1 i).trans (Finset.sum_congr rfl fun o _ =>
    mul_eq (at2 (val_main_v24 (F := Ideal) x2 x3 x4 x5 r0 r1 e1) (g_at h (i 0) o)) (at2 (val_main_v13 (F := Ideal) x2 x3 x4 r0) (vb_at h o (i 1))))

/-- The reference's gradient of `a`, as an array. -/
theorem da_arr : val_main_v32 (F := Ideal) x2 x3 x4 x5 r0 r1 e0 e1 = fun i => D.da (i 0) (i 1) :=
  funext fun i => (val_main_v31_apply x2 x3 x4 x5 r0 r1 e0 e1 i).trans (Finset.sum_congr rfl fun t _ =>
    mul_eq (at2 (val_main_v30 (F := Ideal) x2 x3 x4 x5 r0 r1 e1) (gb_at h t (i 0))) (at2 e0 (h.x t (i 1))))

/-- The reference's gradient of `b`, as an array. -/
theorem db_arr : val_main_v34 (F := Ideal) x2 x3 x4 x5 r0 r1 e0 e1 = fun i => D.db (i 0) (i 1) :=
  funext fun i => (val_main_v33_apply x2 x3 x4 x5 r0 r1 e0 e1 i).trans (Finset.sum_congr rfl fun t _ =>
    mul_eq (at2 (val_main_v24 (F := Ideal) x2 x3 x4 x5 r0 r1 e1) (g_at h t (i 0))) (at2 (val_main_v28 (F := Ideal) x3 e0) (xa_at h t (i 1))))

/-- The reference's product of `x` and the merged weight, as an array. -/
theorem z_arr : val_main_v36 (F := Ideal) x2 x3 x4 r0 e0 = fun i => D.z (i 0) (i 1) :=
  funext fun i => at2 (val_main_v14 (F := Ideal) x2 x3 x4 r0 e0) (z_at h (i 0) (i 1))

/-- The reference's product of `x` and `a`, as an array. -/
theorem xa_arr : val_main_v28 (F := Ideal) x3 e0 = fun i => D.xa (i 0) (i 1) :=
  funext fun i => at2 (val_main_v28 (F := Ideal) x3 e0) (xa_at h (i 0) (i 1))

/-- The reference's product of `g` and `b`, as an array. -/
theorem gb_arr : val_main_v30 (F := Ideal) x2 x3 x4 x5 r0 r1 e1 = fun i => D.gb (i 0) (i 1) :=
  funext fun i => at2 (val_main_v30 (F := Ideal) x2 x3 x4 x5 r0 r1 e1) (gb_at h (i 0) (i 1))

/-- The reference's gradient of the magnitudes, one row. -/
theorem dm_arr : val_main_v35 (F := Ideal) x2 x3 x4 r0 r1 e0 e1 = fun i => D.dm (i 1) :=
  funext fun i => (val_main_v35_apply x2 x3 x4 r0 r1 e0 e1 i).trans (at1 (val_main_v20 (F := Ideal) x2 x3 x4 r0 r1 e0 e1) (dm_at h (i 1)))

end Cert.ReferenceIdeal.Ref

end
-- ==== Proof.Ref.Region.lean ====
/- What the reference's call leaves in its two results: the codes, read as numbers. -/
module

public import proofs.«01_k».proof.Proof.Ref.Value
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Ref

open Cert.ReferenceIdeal Cert.ReferenceIdeal.Gen Cert.ReferenceIdeal.Read Cert.ReferenceIdeal.Value
open Idealize.ShloMosaic Idealize.ShloMosaic.TcCoe Idealize.ShloMosaic.Tactic
open Idealize.SL.Sem

variable (m : (ℓ : Loc nD τ sig) → Buf (Elt Ideal) ℓ) (c : Dev nD)

/-- The tables of the reference's arguments. -/
def rd : Dora.Data := Dora.ofArgs (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

/-- The call's one point. -/
def t0 : Fin cfg0.N := ⟨0, by decide⟩

/-- Rows of tokens: a sequence's positions one after the other. -/
theorem flat_x {α : Type} (X : S12x128x2304.Idx → α) (hc : S12x128x2304.ShapeCasts S1536x2304)
    (t : Fin 1536) (i : Fin 2304) : shapeCast S1536x2304 X hc (ix2 t i) = X (ix3 (Dora.seqOf t) (Dora.posOf t) i) := by
  pointwise
  blk_ext

theorem flat_dy {α : Type} (X : S12x128x9216.Idx → α) (hc : S12x128x9216.ShapeCasts S1536x9216)
    (t : Fin 1536) (i : Fin 9216) : shapeCast S1536x9216 X hc (ix2 t i) = X (ix3 (Dora.seqOf t) (Dora.posOf t) i) := by
  pointwise
  blk_ext

theorem flat_dys {α : Type} (X : S12x128.Idx → α) (hc : S12x128.ShapeCasts S1536)
    (t : Fin 1536) : shapeCast S1536 X hc (ix1 t) = X (ix2 (Dora.seqOf t) (Dora.posOf t)) := by
  pointwise
  blk_ext

/-- A token's decoded code is its code: nothing is rounded or moved. -/
theorem pay2_apply (X : Vec Ideal S1536x9216 .fp8e5m2) (t : Fin 1536) (i : Fin 9216) : k0_pay2 (F := Ideal) X (ix2 t i) = X (ix2 t i) := by
  pointwise [k0_pay2]

/-- What the call finds in its second argument: the codes, one row to a token. -/
theorem V_main_v1 : V m c main_v1 = shapeCast S1536x9216 (m ((c : Thread nD τ).loc main_arg6)) shapeCasts_S12x128x9216_S1536x9216 := by
  show Gen.V0 m c (Proc.devRef .tc main_v1) = _
  simp only [Gen.V0, Gen.hostOps0, List.flatten_cons, List.flatten_nil, List.append_nil, List.cons_append, List.nil_append]
  after_results <;> rfl

theorem idx0 : win0_0.index t0 = ![0, 0] := by decide +kernel
theorem idx1 : win0_1.index t0 = ![0, 0] := by decide +kernel

/-- The codes of the weight, as the call finds them. -/
theorem iblk0_apply (o : Fin 9216) (i : Fin 2304) : iblk m c 0 t0 (ix2 o i) = (rd m c).w o i := by
  unfold rd Dora.ofArgs
  dsimp only
  blk_ext [iblk, V, idx0]

/-- The codes of the output gradient, as the call finds them, one row to a token. -/
theorem iblk1_apply (t : Fin 1536) (o : Fin 9216) : iblk m c 1 t0 (ix2 t o) = (rd m c).dy t o := by
  refine Eq.trans (b := V m c main_v1 (ix2 t o)) ?_ ?_
  · blk_ext [iblk, idx1]
  · rw [V_main_v1]
    exact flat_dy _ _ t o

/-- The call's first result: the weight's codes as numbers. -/
theorem r0_arr : reg_main_v3_0 (F := Ideal) m c = fun i => (rd m c).w (i 0) (i 1) := by
  unfold reg_main_v3_0
  refine (dats m 0 c).arrAt_eq_of_after_last 2 t0 (by decide +kernel) _ fun j => ?_
  blk_simp
  rw [after0_2]
  frame_out
  exact (congrArg (iblk m c 0 t0) (ix2_eta (n0 := 9216) (n1 := 2304) j).symm).trans (iblk0_apply m c (j 0) (j 1))

/-- The call's second result: the output gradient's codes as numbers. -/
theorem r1_arr : reg_main_v3_1 (F := Ideal) m c = fun i => (rd m c).dy (i 0) (i 1) := by
  unfold reg_main_v3_1
  refine (dats m 0 c).arrAt_eq_of_after_last 3 t0 (by decide +kernel) _ fun j => ?_
  blk_simp
  rw [after0_3]
  frame_out
  exact ((congrArg (k0_pay2 (F := Ideal) (iblk m c 1 t0)) (ix2_eta (n0 := 1536) (n1 := 9216) j).symm).trans
    (pay2_apply (iblk m c 1 t0) (j 0) (j 1))).trans (iblk1_apply m c (j 0) (j 1))

/-- What the host operations after the call read. -/
theorem reads : Reads (rd m c) (m ((c : Thread nD τ).loc main_arg2)) (m ((c : Thread nD τ).loc main_arg3)) (m ((c : Thread nD τ).loc main_arg4))
    (m ((c : Thread nD τ).loc main_arg5)) (reg_main_v3_0 (F := Ideal) m c) (reg_main_v3_1 (F := Ideal) m c)
    (shapeCast _ (m ((c : Thread nD τ).loc main_arg0)) shapeCasts_S12x128x2304_S1536x2304)
    (shapeCast _ (m ((c : Thread nD τ).loc main_arg7)) shapeCasts_S12x128_S1536) where
  ws _ := rfl
  a _ _ := rfl
  b _ _ := rfl
  mag _ := rfl
  w o i := congrFun (r0_arr m c) (ix2 o i)
  dy t o := congrFun (r1_arr m c) (ix2 t o)
  x t i := flat_x _ _ t i
  dys t := flat_dys _ _ t

end Cert.ReferenceIdeal.Ref

end
-- ==== Proof.Ref.Run.lean ====
/- The reference's run: its seven results are the tables of `Kern/Spec.lean`. -/
module

public import proofs.«01_k».proof.Proof.Ref.Region

@[expose] public section

set_option maxRecDepth 16384

noncomputable section

namespace Cert.ReferenceIdeal.Ref

open Cert.ReferenceIdeal Cert.ReferenceIdeal.Gen Cert.ReferenceIdeal.Read Cert.ReferenceIdeal.Value
open Idealize.ShloMosaic Idealize.ShloMosaic.TcCoe
open Idealize.SL.Sem

variable (m : (ℓ : Loc nD τ sig) → Buf (Elt Ideal) ℓ) (ρ : Dev nD → PrngReg)

/-- Every execution of the reference ends with the seven results at their tables, and its arguments unchanged. -/
theorem run : θ_run (defs (F := Ideal)) (onTc (τ := τ) (main (F := Ideal))) ⟨m, fun _ => 0, ρ⟩ fun r => ∀ c : Dev nD,
      r.2.mem ((c.tc : Thread nD τ).loc main_v26) = (fun i => (rd m c).dx (i 0) (i 1))
      ∧ r.2.mem ((c.tc : Thread nD τ).loc main_v32) = (fun i => (rd m c).da (i 0) (i 1))
      ∧ r.2.mem ((c.tc : Thread nD τ).loc main_v34) = (fun i => (rd m c).db (i 0) (i 1))
      ∧ r.2.mem ((c.tc : Thread nD τ).loc main_v35) = (fun i => (rd m c).dm (i 1))
      ∧ r.2.mem ((c.tc : Thread nD τ).loc main_v36) = (fun i => (rd m c).z (i 0) (i 1))
      ∧ r.2.mem ((c.tc : Thread nD τ).loc main_v28) = (fun i => (rd m c).xa (i 0) (i 1))
      ∧ r.2.mem ((c.tc : Thread nD τ).loc main_v30) = (fun i => (rd m c).gb (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run (defs (F := Ideal)) _ _).mono (fun r h c => ?_) (Value.run (F := Ideal) m ρ)
  have hr := reads m c
  obtain ⟨h0, h1, h2, h3, h4, h5, h6, hargs⟩ := h c
  exact ⟨h0.trans (dx_arr hr),
    h1.trans (da_arr hr),
    h2.trans (db_arr hr),
    h3.trans (dm_arr hr),
    h4.trans (z_arr hr),
    h5.trans (xa_arr hr),
    h6.trans (gb_arr hr), hargs⟩

end Cert.ReferenceIdeal.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Run
public import proofs.«01_k».proof.Proof.Gen.ReferenceIdeal.Read
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Bits.Frame
public import proofs.«01_k».proof.Proof.Kern.Run
public import proofs.«01_k».proof.Proof.Ref.Run
public import Idealize.ShloMosaic.Adequacy
public import Idealize.ShloMosaic.Init

@[expose] public section

noncomputable section

namespace Cert.Proof

open Idealize.ShloMosaic Idealize.SL.Sem Cert.Kernel

/-- Kernel and reference, started on the same arguments, both end with the seven tables of `Kern/Spec.lean` of those arguments. -/
theorem algebraic : Cert.algebraic_KernelIdeal_ReferenceIdeal (hKernelIdeal := Cert.KernelIdeal.Gen.facts) (hReferenceIdeal := Cert.ReferenceIdeal.Gen.facts) := by
  intro m ρ m' ρ' _ hagree
  have hd : ∀ c, Cert.ReferenceIdeal.Ref.rd m' c = Cert.KernelIdeal.Kern.kd m c := by
    intro c
    obtain ⟨h0, h1, h2, h3, h4, h5, h6, h7⟩ := hagree c
    unfold Cert.ReferenceIdeal.Ref.rd Cert.KernelIdeal.Kern.kd
    rw [h0, h1, h2, h3, h4, h5, h6, h7]
  refine ⟨fun c i => (Cert.KernelIdeal.Kern.kd m c).dx (i 0) (i 1),
    fun c i => (Cert.KernelIdeal.Kern.kd m c).da (i 0) (i 1),
    fun c i => (Cert.KernelIdeal.Kern.kd m c).db (i 0) (i 1),
    fun c i => (Cert.KernelIdeal.Kern.kd m c).dm (i 1),
    fun c i => (Cert.KernelIdeal.Kern.kd m c).z (i 0) (i 1),
    fun c i => (Cert.KernelIdeal.Kern.kd m c).xa (i 0) (i 1),
    fun c i => (Cert.KernelIdeal.Kern.kd m c).gb (i 0) (i 1),
    Cert.KernelIdeal.Kern.run m ρ, ?_⟩
  refine (θ_run (Cert.ReferenceIdeal.defs (F := Ideal)) _ _).mono (fun r h c => ?_) (Cert.ReferenceIdeal.Ref.run m' ρ')
  have h' := h c
  rw [hd c] at h'
  exact h'

/-- All the claims. -/
theorem claim : Cert.Claim := ⟨Cert.Kernel.Gen.facts, Cert.KernelIdeal.Gen.facts, Cert.ReferenceIdeal.Gen.facts,
  fun m ρ _ => Cert.Kernel.Bits.frame m ρ, fun m ρ _ => Cert.KernelIdeal.Kern.frame m ρ, fun m ρ _ => Cert.ReferenceIdeal.Gen.frame m ρ,
  trivial, algebraic⟩

end Cert.Proof

end
